-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2x2x2x1024x1024 : Shape := ⟨5, ![2, 2, 2, 1024, 1024]⟩
abbrev S2x2x1024x1024 : Shape := ⟨4, ![2, 2, 1024, 1024]⟩
abbrev S2x1024x1024 : Shape := ⟨3, ![2, 1024, 1024]⟩
abbrev S2x2x2 : Shape := ⟨3, ![2, 2, 2]⟩
abbrev S2x2 : Shape := ⟨2, ![2, 2]⟩
abbrev S2 : Shape := ⟨1, ![2]⟩
abbrev S1x1 : Shape := ⟨2, ![1, 1]⟩
abbrev S_ : Shape := ⟨0, ![]⟩
abbrev S1x1x1024x1024 : Shape := ⟨4, ![1, 1, 1024, 1024]⟩
abbrev S1024x1024 : Shape := ⟨2, ![1024, 1024]⟩
abbrev S1x1x1 : Shape := ⟨3, ![1, 1, 1]⟩
abbrev S1x1x1x1024x1024 : Shape := ⟨5, ![1, 1, 1, 1024, 1024]⟩
abbrev S1x1024x1024 : Shape := ⟨3, ![1, 1024, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .local _ .vmem, ⟨0, _⟩ => ⟨S2x2x2x1024x1024, .f32⟩
  | .local _ .vmem, ⟨1, _⟩ => ⟨S2x2x1024x1024, .f32⟩
  | .local _ .vmem, ⟨2, _⟩ => ⟨S2x1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 3 → Bool
  | ⟨0, _⟩ => true
  | ⟨1, _⟩ => true
  | ⟨2, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 3 24 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 2

abbrev nD : Nat := 4
abbrev τ : Topo := Topo.v7x

variable {F : FTy → Type} [FloatOps F]

abbrev grid0 : Pipeline.Grid := .none

def k0_off1 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v26 : BitVec 32 := Scalar.muli v2 c2048_i32
  let v27 : BitVec 32 := Scalar.addi v26 c0_i32_14
  let c0_i32_26 : BitVec 32 := 0#32
  ![v27.toNat, 0]
def k0_off2 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_15 : BitVec 32 := 2048#32
  let v28 : BitVec 32 := Scalar.muli v2 c2048_i32_15
  let v29 : BitVec 32 := Scalar.addi v28 c0_i32_16
  let c1024_i32_33 : BitVec 32 := 1024#32
  ![v29.toNat, 1024]
def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_49 : BitVec 32 := 1#32
  let v55 : BitVec 32 := Scalar.muli v14 c1_i32_49
  let v56 : BitVec 32 := Scalar.addi c0_i32_50 v55
  v56.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_52 : BitVec 32 := 1#32
  let v57 : BitVec 32 := Scalar.muli v25 c1_i32_52
  let v58 : BitVec 32 := Scalar.addi c0_i32_53 v57
  v58.toNat
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_79 : BitVec 32 := 1#32
  let v69 : BitVec 32 := Scalar.muli v25 c1_i32_79
  let v70 : BitVec 32 := Scalar.addi c0_i32_80 v69
  v70.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_96 : BitVec 32 := 1#32
  let v79 : BitVec 32 := Scalar.muli v14 c1_i32_96
  let v80 : BitVec 32 := Scalar.addi c0_i32_97 v79
  v80.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_127 : BitVec 32 := 1#32
  let v99 : BitVec 32 := Scalar.muli v25 c1_i32_127
  let v100 : BitVec 32 := Scalar.addi c0_i32_128 v99
  v100.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_144 : BitVec 32 := 1#32
  let v109 : BitVec 32 := Scalar.muli v14 c1_i32_144
  let v110 : BitVec 32 := Scalar.addi c0_i32_145 v109
  v110.toNat
def k0_off3 (d0 : Dev nD) (c0_i32_151 : BitVec 32) (c0_i32_160 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_150 : BitVec 32 := 4#32
  let v119 : BitVec 32 := Scalar.addi v2 c4_i32_150
  let v120 : BitVec 32 := Scalar.subi v119 c0_i32_151
  let c1_i32_152 : BitVec 32 := 1#32
  let v121 : BitVec 32 := Scalar.subi v120 c1_i32_152
  let c4_i32_153 : BitVec 32 := 4#32
  let c0_i32_154 : BitVec 32 := 0#32
  let v122 : BitVec 1 := Scalar.cmpi .eq c4_i32_153 c0_i32_154
  let c1_i32_155 : BitVec 32 := 1#32
  let v123 : BitVec 32 := Scalar.select v122 c1_i32_155 c4_i32_153
  let v124 : BitVec 32 := Scalar.remsi v121 v123
  let c0_i32_157 : BitVec 32 := 0#32
  let v126 : BitVec 1 := Scalar.cmpi .slt v124 c0_i32_157
  let c0_i32_158 : BitVec 32 := 0#32
  let v127 : BitVec 1 := Scalar.cmpi .slt v123 c0_i32_158
  let v128 : BitVec 1 := Scalar.xori v126 v127
  let c0_i32_156 : BitVec 32 := 0#32
  let v125 : BitVec 1 := Scalar.cmpi .ne v124 c0_i32_156
  let v129 : BitVec 1 := Scalar.andi v128 v125
  let v130 : BitVec 32 := Scalar.addi v124 v123
  let v131 : BitVec 32 := Scalar.select v129 v130 v124
  let c2048_i32_159 : BitVec 32 := 2048#32
  let v132 : BitVec 32 := Scalar.muli v131 c2048_i32_159
  let v133 : BitVec 32 := Scalar.addi v132 c0_i32_160
  let c0_i32_166 : BitVec 32 := 0#32
  ![v133.toNat, 0]
def k0_off4 (d0 : Dev nD) (c0_i32_167 : BitVec 32) (c0_i32_176 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : BitVec 32 := Scalar.addi v2 c0_i32_167
  let c1_i32_168 : BitVec 32 := 1#32
  let v140 : BitVec 32 := Scalar.addi v139 c1_i32_168
  let c4_i32_169 : BitVec 32 := 4#32
  let c0_i32_170 : BitVec 32 := 0#32
  let v141 : BitVec 1 := Scalar.cmpi .eq c4_i32_169 c0_i32_170
  let c1_i32_171 : BitVec 32 := 1#32
  let v142 : BitVec 32 := Scalar.select v141 c1_i32_171 c4_i32_169
  let v143 : BitVec 32 := Scalar.remsi v140 v142
  let c0_i32_173 : BitVec 32 := 0#32
  let v145 : BitVec 1 := Scalar.cmpi .slt v143 c0_i32_173
  let c0_i32_174 : BitVec 32 := 0#32
  let v146 : BitVec 1 := Scalar.cmpi .slt v142 c0_i32_174
  let v147 : BitVec 1 := Scalar.xori v145 v146
  let c0_i32_172 : BitVec 32 := 0#32
  let v144 : BitVec 1 := Scalar.cmpi .ne v143 c0_i32_172
  let v148 : BitVec 1 := Scalar.andi v147 v144
  let v149 : BitVec 32 := Scalar.addi v143 v142
  let v150 : BitVec 32 := Scalar.select v148 v149 v143
  let c2048_i32_175 : BitVec 32 := 2048#32
  let v151 : BitVec 32 := Scalar.muli v150 c2048_i32_175
  let v152 : BitVec 32 := Scalar.addi v151 c0_i32_176
  let c1024_i32_182 : BitVec 32 := 1024#32
  ![v152.toNat, 1024]
def k0_dev7 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_301 : BitVec 32 := 1#32
  let v223 : BitVec 32 := Scalar.muli v25 c1_i32_301
  let v224 : BitVec 32 := Scalar.addi c0_i32_302 v223
  v224.toNat
def k0_dev8 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_318 : BitVec 32 := 1#32
  let v233 : BitVec 32 := Scalar.muli v14 c1_i32_318
  let v234 : BitVec 32 := Scalar.addi c0_i32_319 v233
  v234.toNat
def k0_dev9 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_461 : BitVec 32 := 1#32
  let v338 : BitVec 32 := Scalar.muli v14 c1_i32_461
  let v339 : BitVec 32 := Scalar.addi c0_i32_462 v338
  v339.toNat
def k0_dev10 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_465 : BitVec 32 := 1#32
  let v342 : BitVec 32 := Scalar.muli v25 c1_i32_465
  let v343 : BitVec 32 := Scalar.addi c0_i32_466 v342
  v343.toNat
def k0_dev11 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_478 : BitVec 32 := 1#32
  let v344 : BitVec 32 := Scalar.muli v25 c1_i32_478
  let v345 : BitVec 32 := Scalar.addi c0_i32_479 v344
  v345.toNat
def k0_dev12 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_495 : BitVec 32 := 1#32
  let v354 : BitVec 32 := Scalar.muli v14 c1_i32_495
  let v355 : BitVec 32 := Scalar.addi c0_i32_496 v354
  v355.toNat
def k0_dev13 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_650 : BitVec 32 := 1#32
  let v459 : BitVec 32 := Scalar.muli v25 c1_i32_650
  let v460 : BitVec 32 := Scalar.addi c0_i32_651 v459
  v460.toNat
def k0_dev14 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_667 : BitVec 32 := 1#32
  let v469 : BitVec 32 := Scalar.muli v14 c1_i32_667
  let v470 : BitVec 32 := Scalar.addi c0_i32_668 v469
  v470.toNat
def k0_dev15 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_810 : BitVec 32 := 1#32
  let v574 : BitVec 32 := Scalar.muli v14 c1_i32_810
  let v575 : BitVec 32 := Scalar.addi c0_i32_811 v574
  v575.toNat
def k0_dev16 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_814 : BitVec 32 := 1#32
  let v578 : BitVec 32 := Scalar.muli v25 c1_i32_814
  let v579 : BitVec 32 := Scalar.addi c0_i32_815 v578
  v579.toNat
def k0_dev17 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_827 : BitVec 32 := 1#32
  let v580 : BitVec 32 := Scalar.muli v25 c1_i32_827
  let v581 : BitVec 32 := Scalar.addi c0_i32_828 v580
  v581.toNat
def k0_dev18 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_844 : BitVec 32 := 1#32
  let v590 : BitVec 32 := Scalar.muli v14 c1_i32_844
  let v591 : BitVec 32 := Scalar.addi c0_i32_845 v590
  v591.toNat
def k0_off5 (d0 : Dev nD) (c0_i32_943 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_183 : BitVec 32 := 1#32
  let v158 : BitVec 32 := Scalar.addi v2 c1_i32_183
  let c4_i32_184 : BitVec 32 := 4#32
  let c0_i32_185 : BitVec 32 := 0#32
  let v159 : BitVec 1 := Scalar.cmpi .eq c4_i32_184 c0_i32_185
  let c1_i32_186 : BitVec 32 := 1#32
  let v160 : BitVec 32 := Scalar.select v159 c1_i32_186 c4_i32_184
  let v161 : BitVec 32 := Scalar.remsi v158 v160
  let c0_i32_188 : BitVec 32 := 0#32
  let v163 : BitVec 1 := Scalar.cmpi .slt v161 c0_i32_188
  let c0_i32_189 : BitVec 32 := 0#32
  let v164 : BitVec 1 := Scalar.cmpi .slt v160 c0_i32_189
  let v165 : BitVec 1 := Scalar.xori v163 v164
  let c0_i32_187 : BitVec 32 := 0#32
  let v162 : BitVec 1 := Scalar.cmpi .ne v161 c0_i32_187
  let v166 : BitVec 1 := Scalar.andi v165 v162
  let v167 : BitVec 32 := Scalar.addi v161 v160
  let v168 : BitVec 32 := Scalar.select v166 v167 v161
  let c2048_i32_942 : BitVec 32 := 2048#32
  let v679 : BitVec 32 := Scalar.muli v168 c2048_i32_942
  let v680 : BitVec 32 := Scalar.addi v679 c0_i32_943
  let c0_i32_948 : BitVec 32 := 0#32
  ![v680.toNat, 0]
def k0_off6 (d0 : Dev nD) (c0_i32_1012 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c2048_i32_1011 : BitVec 32 := 2048#32
  let v726 : BitVec 32 := Scalar.muli v14 c2048_i32_1011
  let v727 : BitVec 32 := Scalar.addi v726 c0_i32_1012
  let c1024_i32_1017 : BitVec 32 := 1024#32
  ![v727.toNat, 1024]
def k0_dev19 (d0 : Dev nD) : Nat :=
  let c0_i32_1035 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1034 : BitVec 32 := 1#32
  let v735 : BitVec 32 := Scalar.muli v25 c1_i32_1034
  let v736 : BitVec 32 := Scalar.addi c0_i32_1035 v735
  v736.toNat
def k0_dev20 (d0 : Dev nD) : Nat :=
  let c0_i32_1052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1051 : BitVec 32 := 1#32
  let v745 : BitVec 32 := Scalar.muli v14 c1_i32_1051
  let v746 : BitVec 32 := Scalar.addi c0_i32_1052 v745
  v746.toNat
def k0_dev21 (d0 : Dev nD) : Nat :=
  let c0_i32_1231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1230 : BitVec 32 := 1#32
  let v890 : BitVec 32 := Scalar.muli v14 c1_i32_1230
  let v891 : BitVec 32 := Scalar.addi c0_i32_1231 v890
  v891.toNat
def k0_dev22 (d0 : Dev nD) : Nat :=
  let c0_i32_1235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1234 : BitVec 32 := 1#32
  let v894 : BitVec 32 := Scalar.muli v25 c1_i32_1234
  let v895 : BitVec 32 := Scalar.addi c0_i32_1235 v894
  v895.toNat
def k0_dev23 (d0 : Dev nD) : Nat :=
  let c0_i32_1248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1247 : BitVec 32 := 1#32
  let v896 : BitVec 32 := Scalar.muli v25 c1_i32_1247
  let v897 : BitVec 32 := Scalar.addi c0_i32_1248 v896
  v897.toNat
def k0_dev24 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1264 : BitVec 32 := 1#32
  let v906 : BitVec 32 := Scalar.muli v14 c1_i32_1264
  let v907 : BitVec 32 := Scalar.addi c0_i32_1265 v906
  v907.toNat
def k0_off7 (d0 : Dev nD) (c0_i32_1288 : BitVec 32) (c0_i32_1296 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1287 : BitVec 32 := 4#32
  let v924 : BitVec 32 := Scalar.addi v2 c4_i32_1287
  let v925 : BitVec 32 := Scalar.subi v924 c0_i32_1288
  let c4_i32_1289 : BitVec 32 := 4#32
  let c0_i32_1290 : BitVec 32 := 0#32
  let v926 : BitVec 1 := Scalar.cmpi .eq c4_i32_1289 c0_i32_1290
  let c1_i32_1291 : BitVec 32 := 1#32
  let v927 : BitVec 32 := Scalar.select v926 c1_i32_1291 c4_i32_1289
  let v928 : BitVec 32 := Scalar.remsi v925 v927
  let c0_i32_1293 : BitVec 32 := 0#32
  let v930 : BitVec 1 := Scalar.cmpi .slt v928 c0_i32_1293
  let c0_i32_1294 : BitVec 32 := 0#32
  let v931 : BitVec 1 := Scalar.cmpi .slt v927 c0_i32_1294
  let v932 : BitVec 1 := Scalar.xori v930 v931
  let c0_i32_1292 : BitVec 32 := 0#32
  let v929 : BitVec 1 := Scalar.cmpi .ne v928 c0_i32_1292
  let v933 : BitVec 1 := Scalar.andi v932 v929
  let v934 : BitVec 32 := Scalar.addi v928 v927
  let v935 : BitVec 32 := Scalar.select v933 v934 v928
  let c2048_i32_1295 : BitVec 32 := 2048#32
  let v936 : BitVec 32 := Scalar.muli v935 c2048_i32_1295
  let v937 : BitVec 32 := Scalar.addi v936 c0_i32_1296
  let c0_i32_1309 : BitVec 32 := 0#32
  ![v937.toNat, 0]
def k0_off8 (d0 : Dev nD) (c0_i32_1329 : BitVec 32) (c0_i32_1337 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v956 : BitVec 32 := Scalar.addi v2 c0_i32_1329
  let c4_i32_1330 : BitVec 32 := 4#32
  let c0_i32_1331 : BitVec 32 := 0#32
  let v957 : BitVec 1 := Scalar.cmpi .eq c4_i32_1330 c0_i32_1331
  let c1_i32_1332 : BitVec 32 := 1#32
  let v958 : BitVec 32 := Scalar.select v957 c1_i32_1332 c4_i32_1330
  let v959 : BitVec 32 := Scalar.remsi v956 v958
  let c0_i32_1334 : BitVec 32 := 0#32
  let v961 : BitVec 1 := Scalar.cmpi .slt v959 c0_i32_1334
  let c0_i32_1335 : BitVec 32 := 0#32
  let v962 : BitVec 1 := Scalar.cmpi .slt v958 c0_i32_1335
  let v963 : BitVec 1 := Scalar.xori v961 v962
  let c0_i32_1333 : BitVec 32 := 0#32
  let v960 : BitVec 1 := Scalar.cmpi .ne v959 c0_i32_1333
  let v964 : BitVec 1 := Scalar.andi v963 v960
  let v965 : BitVec 32 := Scalar.addi v959 v958
  let v966 : BitVec 32 := Scalar.select v964 v965 v959
  let c2048_i32_1336 : BitVec 32 := 2048#32
  let v967 : BitVec 32 := Scalar.muli v966 c2048_i32_1336
  let v968 : BitVec 32 := Scalar.addi v967 c0_i32_1337
  let c1024_i32_1350 : BitVec 32 := 1024#32
  ![v968.toNat, 1024]
def k0_dev25 (d0 : Dev nD) : Nat :=
  let c0_i32_1369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1368 : BitVec 32 := 1#32
  let v981 : BitVec 32 := Scalar.muli v25 c1_i32_1368
  let v982 : BitVec 32 := Scalar.addi c0_i32_1369 v981
  v982.toNat
def k0_dev26 (d0 : Dev nD) : Nat :=
  let c0_i32_1387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1386 : BitVec 32 := 1#32
  let v991 : BitVec 32 := Scalar.muli v14 c1_i32_1386
  let v992 : BitVec 32 := Scalar.addi c0_i32_1387 v991
  v992.toNat
def k0_dev27 (d0 : Dev nD) : Nat :=
  let c0_i32_1488 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1487 : BitVec 32 := 1#32
  let v1064 : BitVec 32 := Scalar.muli v25 c1_i32_1487
  let v1065 : BitVec 32 := Scalar.addi c0_i32_1488 v1064
  v1065.toNat
def k0_dev28 (d0 : Dev nD) : Nat :=
  let c0_i32_1506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1505 : BitVec 32 := 1#32
  let v1074 : BitVec 32 := Scalar.muli v14 c1_i32_1505
  let v1075 : BitVec 32 := Scalar.addi c0_i32_1506 v1074
  v1075.toNat
def k0_dev29 (d0 : Dev nD) : Nat :=
  let c0_i32_1820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1819 : BitVec 32 := 1#32
  let v1260 : BitVec 32 := Scalar.muli v14 c1_i32_1819
  let v1261 : BitVec 32 := Scalar.addi c0_i32_1820 v1260
  v1261.toNat
def k0_dev30 (d0 : Dev nD) : Nat :=
  let c0_i32_1824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1823 : BitVec 32 := 1#32
  let v1264 : BitVec 32 := Scalar.muli v25 c1_i32_1823
  let v1265 : BitVec 32 := Scalar.addi c0_i32_1824 v1264
  v1265.toNat
def k0_dev31 (d0 : Dev nD) : Nat :=
  let c0_i32_1841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1840 : BitVec 32 := 1#32
  let v1268 : BitVec 32 := Scalar.muli v25 c1_i32_1840
  let v1269 : BitVec 32 := Scalar.addi c0_i32_1841 v1268
  v1269.toNat
def k0_dev32 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1858 : BitVec 32 := 1#32
  let v1278 : BitVec 32 := Scalar.muli v14 c1_i32_1858
  let v1279 : BitVec 32 := Scalar.addi c0_i32_1859 v1278
  v1279.toNat
def k0_dev33 (d0 : Dev nD) : Nat :=
  let c0_i32_1877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1876 : BitVec 32 := 1#32
  let v1288 : BitVec 32 := Scalar.muli v25 c1_i32_1876
  let v1289 : BitVec 32 := Scalar.addi c0_i32_1877 v1288
  v1289.toNat
def k0_dev34 (d0 : Dev nD) : Nat :=
  let c0_i32_1895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1894 : BitVec 32 := 1#32
  let v1298 : BitVec 32 := Scalar.muli v14 c1_i32_1894
  let v1299 : BitVec 32 := Scalar.addi c0_i32_1895 v1298
  v1299.toNat
-- ==== ReferenceIdeal.lean ====
abbrev S32768x2048 : Shape := ⟨2, ![32768, 2048]⟩
abbrev S4x8192x2048 : Shape := ⟨3, ![4, 8192, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Base.lean ====
/-
The set-up of the proof: the ring of four devices and its two directions, the pieces of the buffers that the copies move,
the semaphore cells, the values that travel, and the schedule of payments on the cells.

The kernel is an all-reduce on a ring. Each device's array is cut in four chunks of rows, each chunk in four pieces of
1024 × 1024: `q` picks the upper or lower half of the rows, `d` the left or right half of the columns. The pieces with
`d = 0` travel to the right around the ring, those with `d = 1` to the left. A lane is a pair `(q, d)`; on every lane
there are six hops, numbered 0 to 5: three that add up, then three that hand the finished sums around.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.TalkSites
public import Idealize.ShloMosaic.Lib.MemrefSat
public import Idealize.ShloMosaic.Lib.Tactic
public import Mathlib.Tactic.DeriveFintype

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `j` steps against the direction `d`: where what arrives on lane `d` after `j` hops set out. -/
def back (d : Fin 2) (j : ℕ) (c : Dev nD) : Dev nD := ⟨(c.val + (if d = 0 then 3 else 1) * j) % 4, Nat.mod_lt _ (by decide)⟩
/-- The device that direction `d` receives from. -/
abbrev frm (d : Fin 2) (c : Dev nD) : Dev nD := back d 1 c
set_option backward.proofsInPublic true in
/-- The device that direction `d` sends to. -/
def nxt (d : Fin 2) (c : Dev nD) : Dev nD := ⟨(c.val + (if d = 0 then 1 else 3)) % 4, Nat.mod_lt _ (by decide)⟩

theorem nxt_frm (d : Fin 2) (c : Dev nD) : nxt d (frm d c) = c := by revert d c; decide
theorem frm_nxt (d : Fin 2) (c : Dev nD) : frm d (nxt d c) = c := by revert d c; decide
theorem back_zero (d : Fin 2) (c : Dev nD) : back d 0 c = c := by revert d c; decide

/-- A direction as a permutation of the devices. -/
def ring (d : Fin 2) : Dev nD ≃ Dev nD := ⟨nxt d, frm d, frm_nxt d, nxt_frm d⟩

/-! ## The pieces of the buffers -/

theorem inb_acc : ∀ (q d : Fin 2) (a : Fin 4), (![(q : ℕ), d, 0, 0] : Fin 4 → Nat) a + S1x1x1024x1024.size a ≤ S2x2x1024x1024.size a := by decide
theorem inb_comm : ∀ (q d s : Fin 2) (a : Fin 5), (![(q : ℕ), d, s, 0, 0] : Fin 5 → Nat) a + S1x1x1x1024x1024.size a ≤ S2x2x2x1024x1024.size a := by decide
theorem inb_loc : ∀ (d : Fin 2) (a : Fin 3), (![(d : ℕ), 0, 0] : Fin 3 → Nat) a + S1x1024x1024.size a ≤ S2x1024x1024.size a := by decide
theorem inb_sem3 : ∀ (q d s : Fin 2) (a : Fin 3), (![(q : ℕ), d, s] : Fin 3 → Nat) a + S1x1x1.size a ≤ S2x2x2.size a := by decide
theorem inb_sem2 : ∀ (q d : Fin 2) (a : Fin 2), (![(q : ℕ), d] : Fin 2 → Nat) a + S1x1.size a ≤ S2x2.size a := by decide
theorem inb_sem1 : ∀ (s : Fin 2) (a : Fin 1), (![(s : ℕ)] : Fin 1 → Nat) a + S1.size a ≤ S2.size a := by decide

abbrev accR (q d : Fin 2) : Rect S2x2x1024x1024 := Rect.unit (s := S2x2x1024x1024) ![(q : ℕ), d, 0, 0] S1x1x1024x1024.size (inb_acc q d)
abbrev commR (q d s : Fin 2) : Rect S2x2x2x1024x1024 := Rect.unit (s := S2x2x2x1024x1024) ![(q : ℕ), d, s, 0, 0] S1x1x1x1024x1024.size (inb_comm q d s)
abbrev locR (d : Fin 2) : Rect S2x1024x1024 := Rect.unit (s := S2x1024x1024) ![(d : ℕ), 0, 0] S1x1024x1024.size (inb_loc d)

/-- The running sum of lane `(q, d)`; -/
abbrev accM (q d : Fin 2) : Memref sig .tc .vmem S1024x1024 .f32 :=
  ((Memref.whole cc0_scratch1).slice (accR q d) (fun _ => rfl)).squeeze S1024x1024 squeezes_S1x1x1024x1024_S1024x1024
/-- its landing slot `s`; -/
abbrev commM (q d s : Fin 2) : Memref sig .tc .vmem S1024x1024 .f32 :=
  ((Memref.whole cc0_scratch0).slice (commR q d s) (fun _ => rfl)).squeeze S1024x1024 squeezes_S1x1x1x1024x1024_S1024x1024
/-- the device's own piece, loaded to be added. -/
abbrev locM (d : Fin 2) : Memref sig .tc .vmem S1024x1024 .f32 :=
  ((Memref.whole cc0_scratch2).slice (locR d) (fun _ => rfl)).squeeze S1024x1024 squeezes_S1x1024x1024_S1024x1024
/-- A piece of the argument and of the result, by its corner. -/
abbrev argM (o : Fin 2 → ℕ) (h : ∀ a, o a + S1024x1024.size a ≤ S8192x2048.size a) : Memref sig .tc .hbm S1024x1024 .f32 :=
  (Memref.whole main_arg0).slice (Rect.unit (s := S8192x2048) o S1024x1024.size h) (fun _ => rfl)
abbrev outM (o : Fin 2 → ℕ) (h : ∀ a, o a + S1024x1024.size a ≤ S8192x2048.size a) : Memref sig .tc .hbm S1024x1024 .f32 :=
  (Memref.whole main_v1).slice (Rect.unit (s := S8192x2048) o S1024x1024.size h) (fun _ => rfl)

/-- The corner of the piece `(q, d)` of chunk `k`. -/
def corner (q d : Fin 2) (k : Fin 4) : Fin 2 → ℕ := ![2048 * k.val + 1024 * q.val, 1024 * d.val]
theorem inb_corner : ∀ (q d : Fin 2) (k : Fin 4) (a : Fin 2), corner q d k a + S1024x1024.size a ≤ S8192x2048.size a := by decide +kernel

abbrev argP (q d : Fin 2) (k : Fin 4) : Memref sig .tc .hbm S1024x1024 .f32 := argM (corner q d k) (inb_corner q d k)
abbrev outP (q d : Fin 2) (k : Fin 4) : Memref sig .tc .hbm S1024x1024 .f32 := outM (corner q d k) (inb_corner q d k)

/-! ## The semaphores -/

abbrev sndS (q d s : Fin 2) : DmaSem sig := ((cc0_scratch3.slice (Rect.unit (s := S2x2x2) ![(q : ℕ), d, s] S1x1x1.size (inb_sem3 q d s))).squeeze S_ squeezes_S1x1x1_S_).sem
abbrev rcvS (q d s : Fin 2) : DmaSem sig := ((cc0_scratch4.slice (Rect.unit (s := S2x2x2) ![(q : ℕ), d, s] S1x1x1.size (inb_sem3 q d s))).squeeze S_ squeezes_S1x1x1_S_).sem
abbrev ldS (q d : Fin 2) : DmaSem sig := ((cc0_scratch5.slice (Rect.unit (s := S2x2) ![(q : ℕ), d] S1x1.size (inb_sem2 q d))).squeeze S_ squeezes_S1x1_S_).sem
abbrev stS (q d : Fin 2) : DmaSem sig := ((cc0_scratch6.slice (Rect.unit (s := S2x2) ![(q : ℕ), d] S1x1.size (inb_sem2 q d))).squeeze S_ squeezes_S1x1_S_).sem
abbrev crS (s : Fin 2) : Sem sig := ((cc0_scratch7.slice (Rect.unit (s := S2) ![(s : ℕ)] S1.size (inb_sem1 s))).squeeze S_ squeezes_S1_S_).sem
abbrev barS : Sem sig := (SemArray.scalar (sig.barrier 0 rfl) : Sems sig S_).sem

/-- The cells that devices pay each other on: the barrier, the credit of slot `s`, the departures and arrivals of a lane's slot. -/
inductive Cell where
  | bar
  | cr (s : Fin 2)
  | snd (q d s : Fin 2)
  | rcv (q d s : Fin 2)
deriving DecidableEq, Fintype

def Cell.sem : Cell → SemLoc sig
  | .bar => .reg barS
  | .cr s => .reg (crS s)
  | .snd q d s => .dma (sndS q d s)
  | .rcv q d s => .dma (rcvS q d s)

/-- The cell a semaphore is, read from its number. -/
def decode : SemLoc sig → Option Cell
  | .reg i => if i.val = 2 then some .bar else if i.val = 0 then some (.cr 0) else some (.cr 1)
  | .dma i => if i.val < 8 then some (.snd (Fin.ofNat 2 (i.val / 4)) (Fin.ofNat 2 (i.val / 2)) (Fin.ofNat 2 i.val))
      else if i.val < 16 then some (.rcv (Fin.ofNat 2 (i.val / 4)) (Fin.ofNat 2 (i.val / 2)) (Fin.ofNat 2 i.val)) else none

theorem decode_sem : ∀ x : Cell, decode x.sem = some x := by decide +kernel

theorem sem_injective : Function.Injective Cell.sem := fun x y h =>
  Option.some.inj (by rw [← decode_sem x, ← decode_sem y, h])

abbrev cell (x : Cell) (c : Dev nD) : GSem nD τ sig := ((c : Thread nD τ), x.sem)

theorem cell_inj {x y : Cell} {c c' : Dev nD} (h : cell x c = cell y c') : x = y ∧ c = c' :=
  ⟨sem_injective (congrArg Prod.snd h), congrArg (fun g : GSem nD τ sig => g.1.1) h⟩

/-- What a copy of one piece counts. -/
def N : ℕ := (accM 0 0).view.dmaCredit

theorem N_pos : 0 < N := View.dmaCredit_pos (accM 0 0).view (by decide +kernel)
theorem N_acc (q d : Fin 2) : (accM q d).view.dmaCredit = N := rfl
theorem N_comm (q d s : Fin 2) : (commM q d s).view.dmaCredit = N := rfl
theorem N_loc (d : Fin 2) : (locM d).view.dmaCredit = N := rfl
theorem N_out (o : Fin 2 → ℕ) (h : ∀ a, o a + S1024x1024.size a ≤ S8192x2048.size a) : (outM o h).view.dmaCredit = N := rfl

/-! ## The algebra -/

abbrev UR' : Type := URounds (GSem nD τ sig) (Fin 2)
abbrev UU : Type := UR sig nD τ × (UR' × Counters)

local notation "𝕄" => MT nD τ sig ℕ (Elt F) ℕ UU ℕ

abbrev EP : Emb (UR sig nD τ) (MT nD τ sig ℕ (Elt F) ℕ UU ℕ) := embL
abbrev ER : Emb UR' (MT nD τ sig ℕ (Elt F) ℕ UU ℕ) := (Emb.inl : Emb UR' (UR' × Counters)).trans embR
abbrev EC : UEmb Counters (MT nD τ sig ℕ (Elt F) ℕ UU ℕ) := countersEmb

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## The values -/

/-- Device `y`'s piece `(q, d)` of chunk `k`. -/
def T (q d : Fin 2) (k : Fin 4) (y : Dev nD) : FVec F S1024x1024 .f32 := (argP q d k).view.read (Elt F) (m ((y : Thread nD τ).loc main_arg0))

/-- What is computed of a finished sum. -/
def fX (s : FVec F S1024x1024 .f32) : FVec F S1024x1024 .f32 :=
  let r : FVec F S1024x1024 .f32 := maximumf s (broadcast S1024x1024 (Scalar.ofBits .f32 0x00000000#32))
  addf (mulf (mulf (tanh s) s) s) (mulf (mulf r r) r)

/-- The values of a lane at device `y`, by stage: at 0 its own piece of its own chunk, at 1, 2, 3 the sum of what arrives and of its
    own piece of that chunk, at 4 the function of the sum, at 5 and 6 what arrives, handed on. -/
def V (q d : Fin 2) : ℕ → Dev nD → FVec F S1024x1024 .f32
  | 0, y => T m q d (back d 0 y) y
  | 1, y => addf (V q d 0 (frm d y)) (T m q d (back d 1 y) y)
  | 2, y => addf (V q d 1 (frm d y)) (T m q d (back d 2 y) y)
  | 3, y => addf (V q d 2 (frm d y)) (T m q d (back d 3 y) y)
  | 4, y => fX (V q d 3 y)
  | n + 5, y => V q d (n + 4) (frm d y)

/-- The stage of what hop `h` carries. -/
def stage (h : ℕ) : ℕ := if h ≤ 2 then h else h + 1
/-- The piece it is sent from: the running sum, or the slot where the last hop landed (at six: where hop 5 landed). -/
def srcM (q d : Fin 2) : ℕ → Memref sig .tc .vmem S1024x1024 .f32
  | 4 => commM q d 1
  | 5 => commM q d 0
  | 6 => commM q d 1
  | _ => accM q d

/-! ## What is held -/

/-- A piece at some contents. -/
def some_ (c : Dev nD) {sp : Space} (M : Memref sig .tc sp S1024x1024 .f32) : sProp 𝕄 :=
  iprop(∃ f, (M.view.loc (c : Thread nD τ) ↦[M.view.set]{fullShare} f))
/-- A piece at contents `v`. -/
abbrev has (c : Dev nD) {sp : Space} (M : Memref sig .tc sp S1024x1024 .f32) (q : PosShare TreeShare) (v : FVec F S1024x1024 .f32) : sProp 𝕄 :=
  owns (c : Thread nD τ) M q v

omit [FloatOps F] in
instance some_storable (c : Dev nD) {sp : Space} (M : Memref sig .tc sp S1024x1024 .f32) :
    BI.Storable (upEmb : UEmb _ 𝕄) (some_ (F := F) c M) := by unfold some_; infer_instance

/-- What a payment on a cell hands over. -/
def pay (c : Dev nD) (x : Cell) (r : ℕ) (d : Fin 2) : sProp 𝕄 := match x with
  | .bar => iprop(some_ (nxt d c) (commM 0 d 0) ∗ some_ (nxt d c) (commM 0 d 1) ∗ some_ (nxt d c) (commM 1 d 0) ∗ some_ (nxt d c) (commM 1 d 1))
  | .cr s => iprop(some_ (nxt d c) (commM 0 d s) ∗ some_ (nxt d c) (commM 1 d s)
      ∗ reached ER (cell (.rcv 0 d s) (nxt d c)) (r + 1) ∗ reached ER (cell (.rcv 1 d s) (nxt d c)) (r + 1))
  | .snd q d s => has c (srcM q d (2 * r + s)) fullShare.left (V m q d (stage (2 * r + s)) c)
  | .rcv q d s => iprop(has c (commM q d s) fullShare (V m q d (stage (2 * r + s)) (frm d c)) ∗ reached ER (cell (.cr s) (frm d c)) r)

instance pay_storable (c : Dev nD) (x : Cell) (r : ℕ) (d : Fin 2) : BI.Storable (upEmb : UEmb _ 𝕄) (pay m c x r d) := by
  unfold pay; split <;> infer_instance

/-- The duties of a cell's round: two on the barrier and the credits, one from each neighbour; one on a lane's cells. -/
def dutiesOf (x : Cell) (r : ℕ) : Finset (Fin 2) := match x with
  | .bar => if r < 1 then Finset.univ else ∅
  | .cr _ => if r < 2 then Finset.univ else ∅
  | _ => if r < 3 then {0} else ∅
/-- The units of a payment. -/
def amt : Cell → ℕ
  | .bar => 1
  | .cr _ => 1
  | _ => N
theorem amt_pos (x : Cell) : 0 < amt x := match x with
  | .bar => Nat.one_pos
  | .cr _ => Nat.one_pos
  | .snd _ _ _ => N_pos
  | .rcv _ _ _ => N_pos
/-- The units of a round. -/
def expectOf : Cell → ℕ
  | .bar => 2
  | .cr _ => 2
  | _ => N
/-- The number of a cell's rounds. -/
def rounds : Cell → ℕ
  | .bar => 1
  | .cr _ => 2
  | _ => 3

/-- The schedule of payments. -/
def Rd : Rounds.Schedule (GSem nD τ sig) (Fin 2) 𝕄 where
  duties g r := if g.1.2 = .tc then ((decode g.2).elim ∅ fun x => dutiesOf x r) else ∅
  unitless _ := False
  amount g _ _ := (decode g.2).elim 1 amt
  payload g r d := (decode g.2).elim iprop(emp) fun x => pay m g.1.1 x r d
  amount_pos g _ _ _ := by
    cases decode g.2 with
    | none => exact Nat.one_pos
    | some x => exact amt_pos x

instance Rd_storable (g : GSem nD τ sig) (r : ℕ) (d : Fin 2) : BI.Storable (upEmb : UEmb _ 𝕄) ((Rd (F := F) m).payload g r d) := by
  show BI.Storable upEmb ((decode g.2).elim iprop(emp) fun x => pay m g.1.1 x r d)
  cases decode g.2 with
  | none => show BI.Storable upEmb iprop(emp); infer_instance
  | some x => exact pay_storable m g.1.1 x r d

section Sched
variable (x : Cell) (c : Dev nD) (r : ℕ) (d : Fin 2)

theorem duties_cell : (Rd (F := F) m).duties (cell x c) r = dutiesOf x r := by
  dsimp only [Rd]; rw [if_pos rfl, decode_sem]; rfl
theorem amount_cell : (Rd (F := F) m).amount (cell x c) r d = amt x := by
  dsimp only [Rd]; rw [decode_sem]; rfl
theorem payload_cell : (Rd (F := F) m).payload (cell x c) r d = pay m c x r d := by
  dsimp only [Rd]; rw [decode_sem]; rfl
theorem duties_later (h : rounds x ≤ r) : (Rd (F := F) m).duties (cell x c) r = ∅ := by
  rw [duties_cell]; cases x <;> exact if_neg (Nat.not_lt.mpr h)
theorem mem_duties (h : r < rounds x) (hd : d = 0 ∨ expectOf x = 2 * amt x) : d ∈ dutiesOf x r := by
  have hN := N_pos
  have key : d = 0 ∨ N = 2 * N → d ∈ ({0} : Finset (Fin 2)) := fun h => h.elim Finset.mem_singleton.mpr fun h => absurd h (by omega)
  cases x <;> simp only [dutiesOf, rounds, expectOf, amt] at * <;> rw [if_pos h] <;> first | exact Finset.mem_univ _ | exact key hd
theorem expect_cell (h : r < rounds x) : (Rd (F := F) m).expect (cell x c) r = expectOf x := by
  unfold Schedule.expect Schedule.amountOf
  rw [duties_cell, Finset.sum_congr rfl fun d _ => amount_cell m x c r d]
  cases x <;> simp only [dutiesOf, rounds] at * <;> rw [if_pos h] <;> simp [amt, expectOf]

end Sched

end Cert.RingProof

end
-- ==== Proof.Prog.lean ====
/-
The program of a device as a list of plain instructions, each of a lane, a direction and a hop, and that the kernel's body is this list.
-/
module

public import proofs.«01_k».proof.Proof.Base

@[expose] public section

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-! ## The words of the kernel: which device, which rows -/

/-- The neighbour of direction `d`, as the kernel computes it. -/
def dv (d : Fin 2) (c : Dev nD) : Dev nD := match d with
  | 0 => ⟨k0_dev2 c, k0_dev2_lt c⟩
  | 1 => ⟨k0_dev1 c, k0_dev1_lt c⟩
/-- The corner of the argument's piece `j` steps back, as the kernel computes it; -/
def argO (q d : Fin 2) (j : Fin 4) (c : Dev nD) : Fin 2 → ℕ := match j with
  | ⟨0, _⟩ => (match d with | 0 => k0_off1 | 1 => k0_off2) c (BitVec.ofNat 32 (1024 * q.val))
  | ⟨h + 1, _⟩ => (match d with | 0 => k0_off3 | 1 => k0_off4) c (BitVec.ofNat 32 h) (BitVec.ofNat 32 (1024 * q.val))
/-- the corner of the result's piece that ends at the device (`j = 3`), or lands on it in hop `3 + j`. -/
def outO (q d : Fin 2) (j : Fin 4) (c : Dev nD) : Fin 2 → ℕ := match j with
  | 3 => (match d with | 0 => k0_off5 | 1 => k0_off6) c (BitVec.ofNat 32 (1024 * q.val))
  | j => (match d with | 0 => k0_off7 | 1 => k0_off8) c (BitVec.ofNat 32 j.val) (BitVec.ofNat 32 (1024 * q.val))

theorem dv_eq : ∀ (d : Fin 2) (c : Dev nD), dv d c = nxt d c := by decide +kernel
theorem argO_eq : ∀ (q d : Fin 2) (j : Fin 4) (c : Dev nD), argO q d j c = corner q d (back d j c) := by decide +kernel
theorem outO_eq : ∀ (q d : Fin 2) (j : Fin 4) (c : Dev nD), outO q d j c = corner q d (back d j c) := by decide +kernel

theorem argO_inb (q d : Fin 2) (j : Fin 4) (c : Dev nD) (a : Fin 2) : argO q d j c a + S1024x1024.size a ≤ S8192x2048.size a := by
  rw [argO_eq]; exact inb_corner q d _ a
theorem outO_inb (q d : Fin 2) (j : Fin 4) (c : Dev nD) (a : Fin 2) : outO q d j c a + S1024x1024.size a ≤ S8192x2048.size a := by
  rw [outO_eq]; exact inb_corner q d _ a

/-- The other direction. -/
def opp (d : Fin 2) : Fin 2 := match d with | 0 => 1 | 1 => 0
theorem nxt_opp : ∀ (d : Fin 2) (c : Dev nD), nxt (opp d) c = frm d c := by decide

/-! ## The instructions -/

/-- What a device does. Of a lane `(q, d)`: fetch its own piece to the running sum and wait for it; fetch the piece to be added and wait;
    send hop `h`; wait until a hop has left, until one has arrived; add up; apply the function; store piece `j` of the result and wait.
    Between devices: the barrier and the credits. Four more leave the memory alone: they split what is held of a piece in halves and join it. -/
inductive Ins where
  | seedS (q d : Fin 2)
  | seedW (q d : Fin 2)
  | loadS (q d : Fin 2) (j : Fin 4)
  | loadW (q d : Fin 2) (j : Fin 4)
  | send (q d : Fin 2) (h : Fin 6)
  | sendW (q d : Fin 2) (h : Fin 6)
  | recvW (q d : Fin 2) (h : Fin 6)
  | comp (q d : Fin 2) (h : Fin 3)
  | fin (q d : Fin 2)
  | storeS (q d : Fin 2) (j : Fin 4)
  | storeW (q d : Fin 2) (j : Fin 4)
  | barSig (d : Fin 2)
  | barW
  | crSig (d : Fin 2) (k : Fin 4)
  | crW (k : Fin 4)
  | split (q d : Fin 2) (h : Fin 7)
  | join (q d : Fin 2) (h : Fin 7)

/-- The slot of a hop. -/
def slot (h : ℕ) : Fin 2 := ⟨h % 2, Nat.mod_lt _ (by decide)⟩

theorem srcM_exact (q d : Fin 2) (h : ℕ) : (srcM q d h).view.WordExact := by
  unfold srcM; split <;> exact (View.wordExact_bits rfl).reshape _ _

/-- The hop that piece `j` of the result would leave with next. -/
def stHop (j : Fin 4) : ℕ := match j with
  | 0 => 4
  | 1 => 5
  | 2 => 6
  | 3 => 3

abbrev accW : Memref sig .tc .vmem S2x2x1024x1024 .f32 := Memref.whole cc0_scratch1
abbrev commW : Memref sig .tc .vmem S2x2x2x1024x1024 .f32 := Memref.whole cc0_scratch0
abbrev locW : Memref sig .tc .vmem S2x1024x1024 .f32 := Memref.whole cc0_scratch2

/-- The sum of a landed piece and a fetched one, as the store takes it. -/
def sumV (a : Vec F S1x1x1x1024x1024 .f32) (b : Vec F S1x1024x1024 .f32) : FVec F S1x1x1024x1024 .f32 :=
  shapeCast S1x1x1024x1024 (addf (shapeCast S1024x1024 a shapeCasts_S1x1x1x1024x1024_S1024x1024) (shapeCast S1024x1024 b shapeCasts_S1x1024x1024_S1024x1024)) shapeCasts_S1024x1024_S1x1x1024x1024
/-- The function of a sum, as the store takes it. -/
def finV (a : Vec F S1x1x1024x1024 .f32) : FVec F S1x1x1024x1024 .f32 :=
  shapeCast S1x1x1024x1024 (fX (shapeCast S1024x1024 a shapeCasts_S1x1x1024x1024_S1024x1024)) shapeCasts_S1024x1024_S1x1x1024x1024

abbrev Pr (F : FTy → Type) [FloatOps F] : Type 1 := Prog (TpuEff nD τ sig (Elt F) Λ₀ .tc) PUnit

/-- An instruction on device `c`, then `k`. -/
def Ins.run (c : Dev nD) (k : PUnit → Pr F) : Ins → Pr F
  | .seedS q d => .op (.enqueueDma (argM (argO q d 0 c) (argO_inb q d 0 c)) (.here (accM q d)) (.dma (ldS q d)) (View.wordExact_bits rfl) ((View.wordExact_bits rfl).reshape _ _) ⟨Or.inl rfl, trivial⟩) k
  | .seedW q d => .op (.waitDma2 (ldS q d) (accM q d) (accM q d) ((View.wordExact_bits rfl).reshape _ _) ((View.wordExact_bits rfl).reshape _ _)) k
  | .loadS q d j => .op (.enqueueDma (argM (argO q d j c) (argO_inb q d j c)) (.here (locM d)) (.dma (ldS q d)) (View.wordExact_bits rfl) ((View.wordExact_bits rfl).reshape _ _) ⟨Or.inl rfl, trivial⟩) k
  | .loadW q d j => .op (.waitDma2 (ldS q d) (locM d) (locM d) ((View.wordExact_bits rfl).reshape _ _) ((View.wordExact_bits rfl).reshape _ _)) k
  | .send q d h => .op (.enqueueDma (srcM q d h) (.remote (dv d c : Thread nD τ) (commM q d (slot h)) (.dma (sndS q d (slot h))) rfl) (.dma (rcvS q d (slot h))) (srcM_exact q d h) ((View.wordExact_bits rfl).reshape _ _) ⟨⟨rfl, Or.inl rfl⟩, trivial⟩) k
  | .sendW q d h => .op (.waitDma2 (sndS q d (slot h)) (srcM q d h) (srcM q d h) (srcM_exact q d h) (srcM_exact q d h)) k
  | .recvW q d h => .op (.waitDma2 (rcvS q d (slot h)) (commM q d (slot h)) (commM q d (slot h)) ((View.wordExact_bits rfl).reshape _ _) ((View.wordExact_bits rfl).reshape _ _)) k
  | .comp q d h => .op (.load commW (commR q d (slot h)).toLoadRect (View.loadsAt_vmem h_S1x1x1x1024x1024)) fun (a : Vec F S1x1x1x1024x1024 .f32) =>
      .op (.load locW (locR d).toLoadRect (View.loadsAt_vmem h_S1x1024x1024)) fun (b : Vec F S1x1024x1024 .f32) =>
      .op (.load accW (accR q d).toLoadRect (View.loadsAt_vmem h_S1x1x1024x1024)) fun _ =>
      .op (.store accW (accR q d) (sumV a b) Finset.univ (View.stores_vmem_bits_univ h_S1x1x1024x1024 rfl) (.inl rfl)) k
  | .fin q d => .op (.load accW (accR q d).toLoadRect (View.loadsAt_vmem h_S1x1x1024x1024)) fun (a : Vec F S1x1x1024x1024 .f32) =>
      .op (.load accW (accR q d).toLoadRect (View.loadsAt_vmem h_S1x1x1024x1024)) fun _ =>
      .op (.store accW (accR q d) (finV a) Finset.univ (View.stores_vmem_bits_univ h_S1x1x1024x1024 rfl) (.inl rfl)) k
  | .storeS q d j => .op (.enqueueDma (srcM q d (stHop j)) (.here (outM (outO q d j c) (outO_inb q d j c))) (.dma (stS q d)) (srcM_exact q d (stHop j)) (View.wordExact_bits rfl) ⟨Or.inl rfl, trivial⟩) k
  | .storeW q d j => .op (.waitDma2 (stS q d) (outP q d j) (outP q d j) (View.wordExact_bits rfl) (View.wordExact_bits rfl)) k
  | .barSig d => .op (.semSignal (dv (opp d) c : Thread nD τ) barS 1) k
  | .barW => .op (.semWait barS 2) k
  | .crSig d n => .op (.semSignal (dv (opp d) c : Thread nD τ) (crS (slot n)) 1) k
  | .crW n => .op (.semWait (crS (slot n)) 2) k
  | .split _ _ _ => k ⟨⟩
  | .join _ _ _ => k ⟨⟩

/-- A list of instructions on device `c`. -/
def run (c : Dev nD) : List Ins → Pr F
  | [] => .ret ⟨⟩
  | i :: l => i.run c fun _ => run c l

/-! ## The program -/

/-- Something for both directions. -/
def both (f : Fin 2 → List Ins) : List Ins := f 0 ++ f 1
/-- Something for every lane. -/
def lanes (f : Fin 2 → Fin 2 → List Ins) : List Ins := both fun q => both (f q)

/-- A hop leaves from what is held whole: half of it goes along until it has left. -/
def sends (q : Fin 2) (h : Fin 6) : List Ins := both fun d => [.send q d h]
def loads (q : Fin 2) (j : Fin 4) : List Ins := both fun d => [.loadS q d j]
/-- What arrives in an adding hop is added to the device's own piece. -/
def adds (q : Fin 2) (h : Fin 3) (j : Fin 4) (after : Fin 2 → List Ins) : List Ins := both fun d =>
  [.sendW q d (h.castLE (by decide)), .join q d (h.castLE (by decide)), .recvW q d (h.castLE (by decide)), .loadW q d j, .comp q d h] ++ after d
/-- A finished piece is stored, as it arrives, and half of it kept to be sent on. -/
def hands (q d : Fin 2) (h : Fin 6) (prev j : Fin 4) (n : Fin 7) : List Ins := [.recvW q d h, .storeW q d prev, .split q d n, .storeS q d j]

def prog : List Ins :=
  lanes (fun q d => [.seedS q d]) ++ both (fun d => [.barSig d]) ++ [.barW]
  ++ both (fun q => both (fun d => [.seedW q d]) ++ both (fun d => [.split q d 0]) ++ sends q 0) ++ loads 0 1
  ++ adds 0 0 1 (fun d => [.split 0 d 1]) ++ sends 0 1 ++ loads 1 1
  ++ adds 1 0 1 (fun d => [.split 1 d 1]) ++ both (fun d => [.crSig d 0]) ++ sends 1 1 ++ loads 0 2
  ++ adds 0 1 2 (fun d => [.split 0 d 2]) ++ [.crW 0] ++ sends 0 2 ++ loads 1 2
  ++ adds 1 1 2 (fun d => [.split 1 d 2]) ++ both (fun d => [.crSig d 1]) ++ sends 1 2 ++ loads 0 3
  ++ adds 0 2 3 (fun d => [.fin 0 d, .split 0 d 3, .storeS 0 d 3]) ++ [.crW 1] ++ sends 0 3 ++ loads 1 3
  ++ adds 1 2 3 (fun d => [.fin 1 d, .split 1 d 3, .storeS 1 d 3]) ++ both (fun d => [.crSig d 2]) ++ sends 1 3
  ++ both (fun d => hands 0 d 3 3 0 4) ++ [.crW 2] ++ sends 0 4
  ++ both (fun d => hands 1 d 3 3 0 4) ++ sends 1 4
  ++ lanes (fun q d => [.sendW q d 3, .join q d 3])
  ++ lanes (fun q d => hands q d 4 0 1 5)
  ++ lanes (fun q d => [.sendW q d 4, .join q d 4])
  ++ both (fun d => [.crSig d 3]) ++ [.crW 3]
  ++ both (fun q => sends q 5)
  ++ lanes (fun q d => hands q d 5 1 2 6)
  ++ lanes (fun q d => [.sendW q d 5, .join q d 5])
  ++ lanes (fun q d => [.storeW q d 2, .join q d 6])

set_option maxHeartbeats 0 in
set_option maxRecDepth 65536 in
/-- The kernel's body is the program. -/
theorem body_eq (t : Fin grid0.N) :
    (bodyAt0 (F := F) t) = Prog.op .deviceId fun c => run c prog := rfl

end Cert.RingProof

end
-- ==== Proof.Res.lean ====
/-
What a device holds at a point of the program, as a list of named resources, what each instruction takes from the list and puts back,
and that the whole program runs through from what a device starts with: decided once, for all devices.
-/
module

public import proofs.«01_k».proof.Proof.Prog

@[expose] public section

noncomputable section

namespace Cert.RingProof

open Cert.KernelIdeal Cert.KernelIdeal.Gen

open Idealize.ShloMosaic
open Idealize.ShloMosaic.TcCoe

/-! ## Names of resources -/

/-- The device itself or its neighbour of a direction: the one sent to, the one received from. -/
inductive Who where
  | me
  | nx (d : Fin 2)
  | fr (d : Fin 2)
deriving DecidableEq

def Who.dev (c : Dev nD) : Who → Dev nD
  | .me => c
  | .nx d => nxt d c
  | .fr d => frm d c

/-- A share of a piece. -/
inductive Sh where
  | all
  | lft
  | rgt
deriving DecidableEq

/-- A resource: pieces of the buffers at unknown contents or at a stage of their lane, copies under way, semaphores at rest, and the
    devices' dealings: the position on an own cell, the credit for a round of it, the token for a payment, that a round is reached. -/
inductive Res where
  | arg (q d : Fin 2) (j : Fin 4)
  | outU (q d : Fin 2) (j : Fin 4)
  | outD (q d : Fin 2) (j : Fin 4)
  | accU (q d : Fin 2)
  | acc (q d : Fin 2) (s : Sh) (n : ℕ)
  | commU (q d s : Fin 2)
  | comm (q d s : Fin 2) (sh : Sh) (n : ℕ)
  | rcm (q d s : Fin 2)
  | locU (d : Fin 2)
  | loc (q d : Fin 2) (j : Fin 4)
  | seedF (q d : Fin 2)
  | loadF (q d : Fin 2) (j : Fin 4)
  | storeF (q d : Fin 2) (j : Fin 4)
  | ldZ (q d : Fin 2)
  | stZ (q d : Fin 2)
  | pos (x : Cell) (r : ℕ)
  | crd (x : Cell) (r : ℕ)
  | tok (w : Who) (x : Cell) (r : ℕ) (d : Fin 2)
  | rch (w : Who) (x : Cell) (r : ℕ)
deriving DecidableEq

/-- A payment owed: to whom, on which cell, in which round, which of the round's duties. -/
structure Due where
  w : Who
  x : Cell
  r : ℕ
  d : Fin 2
deriving DecidableEq

/-- The place of a cell's round in the order of the program: a device waits for a round only while it owes nothing up to it. -/
def lev : Cell → ℕ → ℕ
  | .bar, _ => 1
  | .cr s, r => match 2 * r + s.val with | 0 => 5 | 1 => 8 | 2 => 11 | _ => 15
  | .snd _ _ _, _ => 0
  | .rcv q _ s, r => match 2 * r + s.val, q with
    | 0, 0 => 2 | 0, 1 => 3 | 1, 0 => 4 | 1, 1 => 6 | 2, 0 => 7 | 2, 1 => 9 | 3, 0 => 10 | 3, 1 => 12 | 4, 0 => 13 | 4, 1 => 14 | _, _ => 16
/-- A bound of the places. -/
abbrev top : ℕ := 17
theorem lev_lt (x : Cell) (r : ℕ) : lev x r < top := by
  cases x <;> simp only [lev] <;> (try split) <;> decide

/-! ## The instructions on resources -/

/-- What hop `h` is sent from, at what it carries (six: the last landing). -/
def srcR (q d : Fin 2) (h : ℕ) (s : Sh) : Res := match h with
  | 4 => .comm q d 1 s 4
  | 5 => .comm q d 0 s 5
  | 6 => .comm q d 1 s 6
  | h => .acc q d s (stage h)
abbrev rnd (h : ℕ) : ℕ := h / 2

def Ins.pre : Ins → List Res
  | .seedS q d => [.arg q d 0, .accU q d, .ldZ q d]
  | .seedW q d => [.seedF q d]
  | .loadS q d j => [.arg q d j, .locU d, .ldZ q d]
  | .loadW q d j => [.loadF q d j]
  | .send q d h => [srcR q d h .lft, .rcm q d (slot h), .tok .me (.snd q d (slot h)) (rnd h) 0, .rch .me (.snd q d (slot h)) (rnd h),
      .tok (.nx d) (.rcv q d (slot h)) (rnd h) 0, .rch (.nx d) (.rcv q d (slot h)) (rnd h), .rch .me (.cr (slot h)) (rnd h)]
  | .sendW q d h => [.pos (.snd q d (slot h)) (rnd h), .crd (.snd q d (slot h)) (rnd h)]
  | .recvW q d h => [.pos (.rcv q d (slot h)) (rnd h), .crd (.rcv q d (slot h)) (rnd h)]
  | .comp q d h => [.comm q d (slot h) .all h, .loc q d h.succ, .acc q d .all h]
  | .fin q d => [.acc q d .all 3]
  | .storeS q d j => [srcR q d (stHop j) .rgt, .outU q d j, .stZ q d]
  | .storeW q d j => [.storeF q d j]
  | .barSig d => [.tok (.fr d) .bar 0 d, .rch (.fr d) .bar 0, .commU 0 d 0, .commU 0 d 1, .commU 1 d 0, .commU 1 d 1]
  | .barW => [.pos .bar 0, .crd .bar 0]
  | .crSig d k => [.tok (.fr d) (.cr (slot k)) (rnd k) d, .rch (.fr d) (.cr (slot k)) (rnd k), .comm 0 d (slot k) .all (stage k), .comm 1 d (slot k) .all (stage k),
      .rch .me (.rcv 0 d (slot k)) (rnd k + 1), .rch .me (.rcv 1 d (slot k)) (rnd k + 1)]
  | .crW k => [.pos (.cr (slot k)) (rnd k), .crd (.cr (slot k)) (rnd k)]
  | .split q d h => [srcR q d h .all]
  | .join q d h => [srcR q d h .lft, srcR q d h .rgt]

def Ins.post : Ins → List Res
  | .seedS q d => [.seedF q d]
  | .seedW q d => [.arg q d 0, .acc q d .all 0, .ldZ q d]
  | .loadS q d j => [.loadF q d j]
  | .loadW q d j => [.arg q d j, .loc q d j, .ldZ q d]
  | .send q d h => [.crd (.snd q d (slot h)) (rnd h), .rch .me (.cr (slot h)) (rnd h)]
  | .sendW q d h => [.pos (.snd q d (slot h)) (rnd h + 1), .rch .me (.snd q d (slot h)) (rnd h + 1), srcR q d h .lft]
  | .recvW q d h => [.pos (.rcv q d (slot h)) (rnd h + 1), .rch .me (.rcv q d (slot h)) (rnd h + 1), .comm q d (slot h) .all (stage h), .rch (.fr d) (.cr (slot h)) (rnd h)]
  | .comp q d h => [.comm q d (slot h) .all h, .locU d, .acc q d .all (h + 1)]
  | .fin q d => [.acc q d .all 4]
  | .storeS q d j => [.storeF q d j]
  | .storeW q d j => [.outD q d j, srcR q d (stHop j) .rgt, .stZ q d]
  | .barSig d => []
  | .barW => [.pos .bar 1, .rcm 0 0 0, .rcm 0 0 1, .rcm 1 0 0, .rcm 1 0 1, .rcm 0 1 0, .rcm 0 1 1, .rcm 1 1 0, .rcm 1 1 1]
  | .crSig d k => []
  | .crW k => [.pos (.cr (slot k)) (rnd k + 1), .rch .me (.cr (slot k)) (rnd k + 1),
      .rcm 0 0 (slot k), .rcm 1 0 (slot k), .rch (.nx 0) (.rcv 0 0 (slot k)) (rnd k + 1), .rch (.nx 0) (.rcv 1 0 (slot k)) (rnd k + 1),
      .rcm 0 1 (slot k), .rcm 1 1 (slot k), .rch (.nx 1) (.rcv 0 1 (slot k)) (rnd k + 1), .rch (.nx 1) (.rcv 1 1 (slot k)) (rnd k + 1)]
  | .split q d h => [srcR q d h .lft, srcR q d h .rgt]
  | .join q d h => [srcR q d h .all]

/-- The payment an instruction makes. -/
def Ins.due : Ins → Option Due
  | .send q d h => some ⟨.nx d, .rcv q d (slot h), rnd h, 0⟩
  | .barSig d => some ⟨.fr d, .bar, 0, d⟩
  | .crSig d k => some ⟨.fr d, .cr (slot k), rnd k, d⟩
  | _ => none
/-- The place of the round an instruction waits for. -/
def Ins.lvl : Ins → ℕ
  | .recvW q d h => lev (.rcv q d (slot h)) (rnd h)
  | .barW => lev .bar 0
  | .crW k => lev (.cr (slot k)) (rnd k)
  | _ => 0

def take : List Res → List Res → Option (List Res)
  | [], L => some L
  | r :: p, L => if r ∈ L then take p (L.erase r) else none

def Ins.dues (i : Ins) (ds : List Due) : Option (List Due) := match i.due with
  | some u => (match ds with
    | v :: ds' => if v = u then some ds' else none
    | [] => none)
  | none => if ds.all (fun v => i.lvl < lev v.x v.r) then some ds else none

def exec : List Ins → List Res → List Due → Option (List Res × List Due)
  | [], L, ds => some (L, ds)
  | i :: l, L, ds => match take i.pre L, i.dues ds with
    | some L', some ds' => exec l (i.post ++ L') ds'
    | _, _ => none

/-! ## What a device starts and ends with -/

def bits : List (Fin 2) := [0, 1]
def ofLanes (f : Fin 2 → Fin 2 → List Res) : List Res := bits.flatMap fun q => bits.flatMap fun d => f q d

/-- The payments of a device, in order. -/
def dues : List Due := prog.filterMap Ins.due

/-- The buffers: the argument's and the result's pieces, the three scratch buffers' pieces. -/
def memStart : List Res :=
  ofLanes (fun q d => ([0, 1, 2, 3] : List (Fin 4)).map (.arg q d)) ++ ofLanes (fun q d => ([0, 1, 2, 3] : List (Fin 4)).map (.outU q d))
  ++ ofLanes (fun q d => [.accU q d]) ++ ofLanes (fun q d => bits.map (.commU q d)) ++ bits.map .locU
def semStart : List Res := ofLanes (fun q d => [.ldZ q d, .stZ q d])
/-- The cells of a device. -/
def cellList : List Cell := [.bar, .cr 0, .cr 1] ++ (bits.flatMap fun q => bits.flatMap fun d => bits.map (.snd q d)) ++ (bits.flatMap fun q => bits.flatMap fun d => bits.map (.rcv q d))
def posStart : List Res := cellList.map fun x => .pos x 0
def posEnd : List Res := cellList.map fun x => .pos x (rounds x)
/-- The credits for the rounds of the device's own cells that others pay. -/
def crdStart : List Res := [.crd .bar 0] ++ (bits.flatMap fun s => ([0, 1] : List ℕ).map (.crd (.cr s)))
  ++ ofLanes (fun q d => bits.flatMap fun s => ([0, 1, 2] : List ℕ).map (.crd (.rcv q d s)))
/-- The tokens for the payments it makes. -/
def tokStart : List Res := bits.map (fun d => .tok (.fr d) .bar 0 d) ++ (bits.flatMap fun d => bits.flatMap fun s => ([0, 1] : List ℕ).map fun r => .tok (.fr d) (.cr s) r d)
  ++ ofLanes (fun q d => bits.flatMap fun s => ([0, 1, 2] : List ℕ).flatMap fun r => [.tok .me (.snd q d s) r 0, .tok (.nx d) (.rcv q d s) r 0])
/-- The rounds reached at the start, of the own cells and of the neighbours'. -/
def rchStart : List Res := bits.map (fun d => .rch (.fr d) .bar 0) ++ bits.map (fun s => .rch .me (.cr s) 0)
  ++ ofLanes (fun q d => bits.flatMap fun s => [.rch .me (.snd q d s) 0, .rch (.nx d) (.rcv q d s) 0])

def start : List Res := memStart ++ semStart ++ posStart ++ crdStart ++ tokStart ++ rchStart

/-- The buffers at the end: the result's pieces done. -/
def memEnd : List Res :=
  ofLanes (fun q d => ([0, 1, 2, 3] : List (Fin 4)).map (.arg q d)) ++ ofLanes (fun q d => ([0, 1, 2, 3] : List (Fin 4)).map (.outD q d))
  ++ ofLanes (fun q d => [.acc q d .all 4]) ++ ofLanes (fun q d => [.comm q d 0 .all 5, .comm q d 1 .all 6]) ++ bits.map .locU
def finish : List Res := memEnd ++ semStart ++ posEnd

/-- The program runs through, from what a device starts with to what it ends with, every payment made. -/
theorem exec_prog : ((exec prog start dues).bind fun x => (take finish x.1).map fun _ => x.2) = some [] := by decide +kernel

end Cert.RingProof

end
-- ==== Proof.Steps.lean ====
/-
What the resources mean, and that every instruction does to them what its list says: one rule for each kind of instruction, whatever the
lane and the hop.
-/
module

public import proofs.«01_k».proof.Proof.Res
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of)
open Idealize.ShloMosaic.TalkSites (Pay tallyL tallyL_pos)
open Idealize.ShloMosaic.Transfers (Flight)

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## The meaning of the resources -/

def Sh.val : Sh → PosShare TreeShare
  | .all => fullShare
  | .lft => fullShare.left
  | .rgt => fullShare.right

/-- What is held in `srcR q d h`. -/
def srcV (q d : Fin 2) (h : ℕ) (c : Dev nD) : FVec F S1024x1024 .f32 := match h with
  | 4 => V m q d 4 (frm d c)
  | 5 => V m q d 5 (frm d c)
  | 6 => V m q d 6 (frm d c)
  | h => V m q d (stage h) c

abbrev argK (q d : Fin 2) (j : Fin 4) (c : Dev nD) : Memref sig .tc .hbm S1024x1024 .f32 := argM (argO q d j c) (argO_inb q d j c)
abbrev outK (q d : Fin 2) (j : Fin 4) (c : Dev nD) : Memref sig .tc .hbm S1024x1024 .f32 := outM (outO q d j c) (outO_inb q d j c)
/-- The device's own piece, `j` steps back. -/
abbrev own (q d : Fin 2) (j : ℕ) (c : Dev nD) : FVec F S1024x1024 .f32 := T m q d (back d j c) c

def Res.den (c : Dev nD) : Res → sProp 𝕄
  | .arg q d j => has c (argK q d j c) fullShare (own m q d j c)
  | .outU q d j => some_ c (outK q d j c)
  | .outD q d j => has c (outK q d j c) fullShare (srcV m q d (stHop j) c)
  | .accU q d => some_ c (accM q d)
  | .acc q d s n => has c (accM q d) s.val (V m q d n c)
  | .commU q d s => some_ c (commM q d s)
  | .comm q d s sh n => has c (commM q d s) sh.val (V m q d n (frm d c))
  | .rcm q d s => some_ (nxt d c) (commM q d s)
  | .locU d => some_ c (locM d)
  | .loc q d j => has c (locM d) fullShare (own m q d j c)
  | .seedF q d => Flight EC (c : Thread nD τ) (.dma (ldS q d)) 0 N iprop(has c (accM q d) fullShare (own m q d 0 c) ∗ has c (argK q d 0 c) fullShare (own m q d 0 c))
  | .loadF q d j => Flight EC (c : Thread nD τ) (.dma (ldS q d)) 0 N iprop(has c (locM d) fullShare (own m q d j c) ∗ has c (argK q d j c) fullShare (own m q d j c))
  | .storeF q d j => Flight EC (c : Thread nD τ) (.dma (stS q d)) 0 N
      iprop(has c (outK q d j c) fullShare (srcV m q d (stHop j) c) ∗ has c (srcM q d (stHop j)) fullShare.right (srcV m q d (stHop j) c))
  | .ldZ q d => semVal ((c : Thread nD τ), .dma (ldS q d)) 0
  | .stZ q d => semVal ((c : Thread nD τ), .dma (stS q d)) 0
  | .pos x r => atPos ER (cell x c) r ∅ 0
  | .crd x r => cred (tallyAt (cell x c) (lev x r) (expectOf x))
  | .tok w x r d => dutyTok ER (cell x (w.dev c)) r d
  | .rch w x r => reached ER (cell x (w.dev c)) r

def den (c : Dev nD) : List Res → sProp 𝕄
  | [] => iprop(emp)
  | r :: l => iprop(r.den m c ∗ den c l)

theorem srcR_den (q d : Fin 2) (h : ℕ) (s : Sh) (c : Dev nD) : (srcR q d h s).den m c = has c (srcM q d h) s.val (srcV m q d h c) := by
  match h with
  | 4 => rfl
  | 5 => rfl
  | 6 => rfl
  | 0 => rfl
  | 1 => rfl
  | 2 => rfl
  | 3 => rfl
  | _ + 7 => rfl

theorem srcV_eq (q d : Fin 2) (h : Fin 6) (c : Dev nD) : srcV m q d h c = V m q d (stage h) c := by
  fin_cases h <;> rfl

/-- The payment a due names. -/
def Due.pay (c : Dev nD) (u : Due) : Pay nD τ sig := (cell u.x (u.w.dev c), lev u.x u.r, amt u.x)
/-- What a device still owes. -/
def owe (c : Dev nD) (ds : List Due) : sProp 𝕄 := iprop(∃ W, owes (c : Thread nD τ) (tallyL (ds.map (Due.pay c))) W)

variable (K : Dev nD × Cell → ℕ)

/-- What everyone knows: the levels, and the record of every device's cells. -/
def G : sProp 𝕄 := iprop(levAts (L top) lv ∗ bigSep Finset.univ fun p : Dev nD × Cell => cellInv ER (Rd m) (K p) (cell p.2 p.1))

instance G_persistent : Persistent (G m K) := by unfold G; infer_instance

theorem G_lev : G m K ⊢ levAts (L top) lv := by
  unfold G; iintro ⟨H, -⟩; iexact H
theorem G_cell (x : Cell) (c : Dev nD) : G m K ⊢ cellInv ER (Rd m) (K (c, x)) (cell x c) := by
  unfold G
  exact sep_elim_right.trans (show _ ⊢ _ from bigSep_elim (Φ := fun p : Dev nD × Cell => cellInv ER (Rd m) (K p) (cell p.2 p.1)) (Finset.mem_univ (c, x)))

theorem mayWait (c : Dev nD) (s : SemLoc sig) (i : ℕ) (hi : i < top) (ds : List Due) (h : ∀ v ∈ ds, i < lev v.x v.r) :
    G m K ⊢ MayWait (c : Thread nD τ) s i (tallyL (ds.map (Due.pay c))) :=
  (G_lev m K).trans (mayWait_of hi c s _ fun g k hk => by
    obtain ⟨y, hy, rfl, rfl⟩ := tallyL_pos hk
    obtain ⟨v, hv, rfl⟩ := List.mem_map.mp hy
    exact ⟨SiteBlocks.mem_L _ _ (lev_lt _ _), h v hv⟩)

/-! ## Local copies -/

section Ops
variable (c : Dev nD) (k : PUnit.{1} → Pr F)

theorem dma_start (Q : PUnit.{1} → sProp 𝕄) {sp sp' : Space} (src : Memref sig .tc sp S1024x1024 .f32) (dst : Memref sig .tc sp' S1024x1024 .f32) (sm : DmaSem sig)
    (hN : dst.view.dmaCredit = N) {h₁ : src.view.WordExact} {h₂ : dst.view.WordExact} {h₃ : DmaTarget.Typed sp (.dma sm) (.here dst : DmaTarget nD τ sig (.tc : Proc τ) sp' S1024x1024 .f32)}
    (q : PosShare TreeShare) (X : FVec F S1024x1024 .f32) :
    iprop(has c src q X ∗ some_ c dst ∗ semVal ((c : Thread nD τ), .dma sm) 0)
      ⊢ iprop((Flight EC (c : Thread nD τ) (.dma sm) 0 N iprop(has c dst fullShare X ∗ has c src q X) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) h₁ h₂ h₃) k) Q) := by
  unfold has owns some_
  iintro ⟨⟨%f, %hf, Hs⟩, ⟨%g, Hd⟩, Hv⟩ Hk
  iapply (Transfers.wp_dmaLocal EC 𝒱₀ (c : Thread nD τ) none 0 N (show dst.view.amount (.dma sm) = N from hN) N_pos (Finset.Subset.refl _)) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]
  · iexists _
    isplitr
    rotate_left
    · iexact Hd
    · ipureintro; rw [View.read_write_univ]; exact hf
  · iexists f
    isplitr; · ipureintro; exact hf
    iexact Hs

theorem dma_wait (Q : PUnit.{1} → sProp 𝕄) {sp sp' : Space} (src : Memref sig .tc sp' S1024x1024 .f32) (dst : Memref sig .tc sp S1024x1024 .f32) (sm : DmaSem sig)
    (hN : dst.view.dmaCredit = N) {h₁ : src.view.WordExact} {h₂ : dst.view.WordExact} (D : sProp 𝕄) (ds : List Due) (h : ∀ v ∈ ds, 0 < lev v.x v.r) :
    iprop(G m K ∗ Flight EC (c : Thread nD τ) (.dma sm) 0 N D ∗ owe c ds)
      ⊢ iprop((iprop(D ∗ semVal ((c : Thread nD τ), .dma sm) 0 ∗ owe c ds) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  unfold owe
  iintro ⟨#HG, Hf, ⟨%W, HO⟩⟩ Hk
  iapply (Transfers.wp_waitLocalO EC 𝒱₀ (c : Thread nD τ) none 0 hN) $$ [Hf HO]
  · isplitl [Hf]; · iexact Hf
    isplitl [HO]; · iexact HO
    iapply (mayWait m K c (.dma sm) 0 (by decide) ds h); iexact HG
  iintro ⟨HD, Hv, HO⟩
  iapply Hk
  isplitl [HD]; · iexact HD
  isplitl [Hv]; · iexact Hv
  iexists _; iexact HO

/-! ## The cells -/

/-- A wait for all of a round of one of the device's own cells. -/
theorem cell_wait (Q : PUnit.{1} → sProp 𝕄) (x : Cell) (r : ℕ) (hr : r < rounds x) {w : TpuEff nD τ sig (Elt F) Λ₀ .tc PUnit.{1}}
    (hw : ∀ Kt : PUnit.{1} → sProp 𝕄, wpE (defs₀ (F := F)) 𝒱₀ (c : Thread nD τ) none Set.univ w Kt = waitSpec (c : Thread nD τ) Set.univ x.sem (expectOf x) Kt)
    (ds : List Due) (h : ∀ v ∈ ds, lev x r < lev v.x v.r) :
    iprop(G m K ∗ (Res.pos x r).den m c ∗ (Res.crd x r).den m c ∗ owe c ds)
      ⊢ iprop((iprop((Res.pos x (r + 1)).den m c ∗ (Res.rch .me x (r + 1)).den m c ∗ bigSep (dutiesOf x r) (pay m c x r) ∗ owe c ds)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owe
  dsimp only [Res.den, Who.dev]
  iintro ⟨#HG, Hat, Hc, ⟨%W, HO⟩⟩ Hk
  iapply (Rounds.wp_wait_rest_token 𝒱₀ ER (Rd m) (c : Thread nD τ) none (κ := K (c, x)) hw (Set.mem_univ _) (lev x r)
      (O := tallyL (ds.map (Due.pay c))) (W := W) (R := r) (m := 0) (T := ∅) (by rw [expect_cell m x c r hr, Nat.zero_add])) $$ [Hc HO Hat]
  · isplitr; · iapply (G_cell m K x c); iexact HG
    isplitl [Hc]; · iexact Hc
    isplitl [HO]; · iexact HO
    isplitr; · iapply (mayWait m K c x.sem (lev x r) (lev_lt x r) ds h); iexact HG
    iexact Hat
  iintro ⟨HO, Hat, Hr, Hp⟩
  iapply Hk
  isplitl [Hat]; · iexact Hat
  isplitl [Hr]; · iexact Hr
  isplitl [Hp]
  · rw [show bigSep (dutiesOf x r) (pay m c x r) = bigSep ((Rd m).duties (cell x c) r \ ∅) (fun d => (Rd m).payload (cell x c) r d) from by
      rw [Finset.sdiff_empty, duties_cell]; exact congrArg (bigSep (dutiesOf x r)) (funext fun d => (payload_cell m x c r d).symm)]
    iexact Hp
  iexists _; iexact HO

theorem tallyL_cons (u : Due) (ds : List Due) : tallyL ((u :: ds).map (Due.pay c)) = tallyL (ds.map (Due.pay c)) + (tallyAt (cell u.x (u.w.dev c)) (lev u.x u.r) (amt u.x) : CellTallies nD τ sig ℕ) :=
  add_comm _ _

/-- A payment by a signal. -/
theorem cell_signal (Q : PUnit.{1} → sProp 𝕄) (u : Due) (c' : Dev nD) (hc : c' = u.w.dev c) (sm : Sem sig) (hx : u.x.sem = .reg sm) (hr : u.r < rounds u.x) (hd : expectOf u.x = 2 * amt u.x) (ha : amt u.x = 1) (ds : List Due) :
    iprop(G m K ∗ (Res.tok u.w u.x u.r u.d).den m c ∗ (Res.rch u.w u.x u.r).den m c ∗ pay m (u.w.dev c) u.x u.r u.d ∗ owe c (u :: ds))
      ⊢ iprop((owe c ds -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (c' : Thread nD τ) sm 1) k) Q) := by
  subst hc
  have hduty := mem_duties u.x u.r u.d hr (.inr hd)
  rw [← duties_cell m u.x (u.w.dev c) u.r] at hduty
  have ham := (amount_cell (F := F) m u.x (u.w.dev c) u.r u.d).trans ha
  have hO := tallyL_cons c u ds
  rw [← payload_cell]
  unfold owe
  rw [hO, ha]
  have hG := G_cell m K u.x (u.w.dev c)
  dsimp only [Res.den, cell] at *
  rw [hx] at *
  iintro ⟨#HG, Ht, Hr, Hp, ⟨%W, HO⟩⟩ Hk
  iapply (Rounds.wp_signal 𝒱₀ ER (Rd m) (c : Thread nD τ) none (dst := (u.w.dev c : Thread nD τ)) (κ := K (u.w.dev c, u.x)) (k' := 1)
      (d := u.d) hduty ham (lev u.x u.r) (tallyL (ds.map (Due.pay c))) rfl) $$ [Ht Hr Hp HO]
  · isplitr; · iapply hG; iexact HG
    isplitl [HO]; · iexact HO
    isplitl [Ht]; · iexact Ht
    isplitl [Hp] <;> iassumption
  iintro HO
  iapply Hk
  iexists W; iexact HO

/-- Hop `h` of a lane leaves: half of the source comes back when it has left, the rest is the neighbour's landing. -/
theorem hop_send (Q : PUnit.{1} → sProp 𝕄) (q d : Fin 2) (h : Fin 6) (c' : Dev nD) (hc : c' = nxt d c) {hsc : (commM q d (slot h)).view.ref.isScScratch = false}
    {h₁ : (srcM q d h).view.WordExact} {h₂ : (commM q d (slot h)).view.WordExact}
    {h₃ : DmaTarget.Typed .vmem (.dma (rcvS q d (slot h))) (.remote (c' : Thread nD τ) (commM q d (slot h)) (.dma (sndS q d (slot h))) hsc)} (ds : List Due) :
    iprop(G m K ∗ den m c (Ins.pre (.send q d h)) ∗ owe c (⟨.nx d, .rcv q d (slot h), rnd h, 0⟩ :: ds))
      ⊢ iprop((iprop(den m c (Ins.post (.send q d h)) ∗ owe c ds) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (srcM q d h) (.remote (c' : Thread nD τ) (commM q d (slot h)) (.dma (sndS q d (slot h))) hsc) (.dma (rcvS q d (slot h))) h₁ h₂ h₃) k) Q) := by
  subst hc
  have hh : 2 * rnd h + (slot h : ℕ) = h := Nat.div_add_mod h 2
  have hr : rnd h < 3 := by have := h.isLt; unfold rnd; omega
  have hds : (0 : Fin 2) ∈ (Rd m).duties (cell (.snd q d (slot h)) c) (rnd h) := by
    rw [duties_cell]; exact mem_duties (.snd q d (slot h)) (rnd h) 0 hr (.inl rfl)
  have hdr : (0 : Fin 2) ∈ (Rd m).duties (cell (.rcv q d (slot h)) (nxt d c)) (rnd h) := by
    rw [duties_cell]; exact mem_duties (.rcv q d (slot h)) (rnd h) 0 hr (.inl rfl)
  have hps (f : (srcM q d h).view.ty.Contents (Elt F)) (hf : (srcM q d h).view.read (Elt F) f = V m q d (stage h) c) :
      ((srcM q d h).view.loc (c : Thread nD τ) ↦[(srcM q d h).view.set]{fullShare.left} f : sProp 𝕄) ⊢ (Rd m).payload (cell (.snd q d (slot h)) c) (rnd h) 0 := by
    rw [payload_cell]
    show _ ⊢ has c (srcM q d (2 * rnd h + slot h)) fullShare.left (V m q d (stage (2 * rnd h + slot h)) c)
    rw [hh, ← hf]
    exact owns_intro (c : Thread nD τ) (srcM q d h) fullShare.left f
  have hpr (g : Buf (Elt F) ((commM q d (slot h)).view.loc (nxt d c : Thread nD τ))) :
      iprop(((commM q d (slot h)).view.loc (nxt d c : Thread nD τ) ↦[(commM q d (slot h)).view.set]{fullShare}
          (commM q d (slot h)).view.write (Elt F) g (V m q d (stage h) c) Finset.univ) ∗ reached ER (cell (.cr (slot h)) c) (rnd h))
        ⊢ (Rd m).payload (cell (.rcv q d (slot h)) (nxt d c)) (rnd h) 0 := by
    rw [payload_cell]
    show _ ⊢ iprop(has (nxt d c) (commM q d (slot h)) fullShare (V m q d (stage (2 * rnd h + slot h)) (frm d (nxt d c))) ∗ reached ER (cell (.cr (slot h)) (frm d (nxt d c))) (rnd h))
    rw [hh, frm_nxt]
    refine sep_mono_left ?_
    refine (owns_intro (c := (nxt d c : Thread nD τ)) (commM q d (slot h)) fullShare _).trans ?_
    rw [View.read_write_univ]
  simp only [Ins.pre, Ins.post, den, srcR_den, srcV_eq]
  dsimp only [Res.den, Who.dev, Sh.val]
  unfold owe
  rw [tallyL_cons]
  dsimp only [Who.dev]
  unfold some_ has owns
  iintro ⟨#HG, ⟨⟨%f, %hf, Hs⟩, ⟨%g, Hd⟩, Ht₁, Hr₁, Ht₂, Hr₂, #Hcr, -⟩, ⟨%W, HO⟩⟩ Hk
  iapply (Rounds.wp_send_pointsTo_with 𝒱₀ ER (Rd m) (c : Thread nD τ) none (c' := (nxt d c : Thread nD τ)) (κ₁ := K (c, .snd q d (slot h))) (κ₂ := K (nxt d c, .rcv q d (slot h)))
      (r₁ := rnd h) (r₂ := rnd h) (d₁ := 0) (d₂ := 0) (fd := g) (F := reached ER (cell (.cr (slot h)) c) (rnd h))
      hds hdr (lev (.rcv q d (slot h)) (rnd h)) 0 N
      (show (commM q d (slot h)).view.amount (.dma (rcvS q d (slot h))) = N from N_comm q d (slot h))
      (amount_cell m (.snd q d (slot h)) c (rnd h) 0) (amount_cell m (.rcv q d (slot h)) (nxt d c) (rnd h) 0)
      (tallyL (ds.map (Due.pay c))) rfl (W := W) (hps f hf) (by rw [hf]; exact hpr g)) $$ [Hs Hd Ht₁ Hr₁ Ht₂ Hr₂ HO]
  · isplitr; · iapply (G_cell m K (.snd q d (slot h)) c); iexact HG
    isplitr; · iapply (G_cell m K (.rcv q d (slot h)) (nxt d c)); iexact HG
    isplitl [Hs]; · iexact Hs
    isplitl [Hd]
    · isplitl [Hd]; · iexact Hd
      iexact Hcr
    isplitl [HO]; · iexact HO
    isplitl [Ht₁]; · iexact Ht₁
    isplitl [Hr₁]; · iexact Hr₁
    isplitl [Ht₂] <;> iassumption
  iintro ⟨Hc, HO⟩
  iapply Hk
  isplitl [Hc]
  · isplitl [Hc]; · iexact Hc
    isplitr; · iexact Hcr
    iempintro
  iexists W; iexact HO

/-! ## Adding up, and the function -/

theorem read_comm (q d s : Fin 2) (f : (commM q d s).view.ty.Contents (Elt F)) : (commM q d s).view.read (Elt F) f
    = shapeCast S1024x1024 ((commW.access (commR q d s)).read (Elt F) f) shapeCasts_S1x1x1x1024x1024_S1024x1024 := rfl
theorem read_acc (q d : Fin 2) (f : (accM q d).view.ty.Contents (Elt F)) : (accM q d).view.read (Elt F) f
    = shapeCast S1024x1024 ((accW.access (accR q d)).read (Elt F) f) shapeCasts_S1x1x1024x1024_S1024x1024 := rfl
theorem read_loc (d : Fin 2) (f : (locM d).view.ty.Contents (Elt F)) : (locM d).view.read (Elt F) f
    = shapeCast S1024x1024 ((locW.access (locR d)).read (Elt F) f) shapeCasts_S1x1024x1024_S1024x1024 := rfl

theorem add_ok (Q : PUnit.{1} → sProp 𝕄) (q d s : Fin 2) (X Y Z : FVec F S1024x1024 .f32) :
    iprop(has c (commM q d s) fullShare X ∗ has c (locM d) fullShare Y ∗ has c (accM q d) fullShare Z)
      ⊢ iprop((iprop(has c (commM q d s) fullShare X ∗ some_ c (locM d) ∗ has c (accM q d) fullShare (addf X Y))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load commW (commR q d s).toLoadRect (View.loadsAt_vmem h_S1x1x1x1024x1024)) fun (a : Vec F S1x1x1x1024x1024 .f32) =>
              .op (.load locW (locR d).toLoadRect (View.loadsAt_vmem h_S1x1024x1024)) fun (b : Vec F S1x1024x1024 .f32) =>
              .op (.load accW (accR q d).toLoadRect (View.loadsAt_vmem h_S1x1x1024x1024)) fun _ =>
              .op (.store accW (accR q d) (sumV a b) Finset.univ (View.stores_vmem_bits_univ h_S1x1x1024x1024 rfl) (.inl rfl)) k) Q) := by
  unfold has owns some_
  iintro ⟨⟨%f, %hf, Hf⟩, ⟨%g, %hg, Hg⟩, ⟨%e, %he, He⟩⟩ Hk
  iapply (wp_load_rect 𝒱₀ (c : Thread nD τ) none Set.univ (m := commW) (r := commR q d s) (S := (commM q d s).view.set) (by rw [View.set_reshape])) $$ Hf
  iintro Hf
  iapply (wp_load_rect 𝒱₀ (c : Thread nD τ) none Set.univ (m := locW) (r := locR d) (S := (locM d).view.set) (by rw [View.set_reshape])) $$ Hg
  iintro Hg
  iapply (wp_load_rect 𝒱₀ (c : Thread nD τ) none Set.univ (m := accW) (r := accR q d) (S := (accM q d).view.set) (by rw [View.set_reshape])) $$ He
  iintro He
  iapply (wp_store 𝒱₀ (c : Thread nD τ) none Set.univ (m := accW) (r := accR q d) (S := (accM q d).view.set) (by rw [View.set_reshape]; exact Finset.Subset.refl _)) $$ He
  iintro He
  iapply Hk
  isplitl [Hf]
  · iexists f; isplitr; · ipureintro; exact hf
    iexact Hf
  isplitl [Hg]; · iexists g; iexact Hg
  iexists _; isplitr
  rotate_left
  · iexact He
  · ipureintro
    rw [read_acc, View.read_write_univ, ← hf, ← hg, read_comm, read_loc]
    unfold sumV
    exact shapeCast_shapeCast _ _ _

theorem fin_ok (Q : PUnit.{1} → sProp 𝕄) (q d : Fin 2) (X : FVec F S1024x1024 .f32) :
    iprop(has c (accM q d) fullShare X)
      ⊢ iprop((iprop(has c (accM q d) fullShare (fX X))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load accW (accR q d).toLoadRect (View.loadsAt_vmem h_S1x1x1024x1024)) fun (a : Vec F S1x1x1024x1024 .f32) =>
              .op (.load accW (accR q d).toLoadRect (View.loadsAt_vmem h_S1x1x1024x1024)) fun _ =>
              .op (.store accW (accR q d) (finV a) Finset.univ (View.stores_vmem_bits_univ h_S1x1x1024x1024 rfl) (.inl rfl)) k) Q) := by
  unfold has owns
  iintro ⟨%e, %he, He⟩ Hk
  iapply (wp_load_rect 𝒱₀ (c : Thread nD τ) none Set.univ (m := accW) (r := accR q d) (S := (accM q d).view.set) (by rw [View.set_reshape])) $$ He
  iintro He
  iapply (wp_load_rect 𝒱₀ (c : Thread nD τ) none Set.univ (m := accW) (r := accR q d) (S := (accM q d).view.set) (by rw [View.set_reshape])) $$ He
  iintro He
  iapply (wp_store 𝒱₀ (c : Thread nD τ) none Set.univ (m := accW) (r := accR q d) (S := (accM q d).view.set) (by rw [View.set_reshape]; exact Finset.Subset.refl _)) $$ He
  iintro He
  iapply Hk
  iexists _; isplitr
  rotate_left
  · iexact He
  · ipureintro
    rw [read_acc, View.read_write_univ, ← he, read_acc]
    unfold finV
    exact shapeCast_shapeCast _ _ _

end Ops

end Cert.RingProof

end
-- ==== Proof.Sound.lean ====
/-
Every instruction does to the resources what its list says, so the program run on lists is a proof of the program.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of)
open Idealize.ShloMosaic.TalkSites (Pay tallyL tallyL_pos)
open Idealize.ShloMosaic.Transfers (Flight)

variable {F : FTy → Type} [FloatOps F]

local notation "𝕄" => MT nD τ sig ℕ (Elt F) ℕ UU ℕ

variable (m : (ℓ : Loc nD τ sig) → Buf (Elt F) ℓ) (K : Dev nD × Cell → ℕ)

abbrev WP (c : Dev nD) (p : Pr F) (Q : PUnit.{1} → sProp 𝕄) : sProp 𝕄 := wp frame (wpE (defs₀ (F := F)) 𝒱₀ (c : Thread nD τ) none) Set.univ p Q

/-! ## The payments left -/

theorem dues_some {i : Ins} {u : Due} (hi : i.due = some u) {ds ds' : List Due} (h : i.dues ds = some ds') : ds = u :: ds' := by
  unfold Ins.dues at h
  rw [hi] at h
  cases ds with
  | nil => simp at h
  | cons v l =>
    dsimp only at h
    split at h
    · rename_i hv; rw [hv, Option.some.inj h]
    · exact absurd h (by simp)

theorem dues_none {i : Ins} (hi : i.due = none) {ds ds' : List Due} (h : i.dues ds = some ds') : ds' = ds ∧ ∀ v ∈ ds, i.lvl < lev v.x v.r := by
  unfold Ins.dues at h
  rw [hi] at h
  dsimp only at h
  split at h
  · rename_i hv
    exact ⟨(Option.some.inj h).symm, fun v hm => of_decide_eq_true (List.all_eq_true.mp hv v hm)⟩
  · exact absurd h (by simp)

/-! ## Lemmas on the contents -/

theorem V_zero (q d : Fin 2) (c : Dev nD) : V m q d 0 c = own m q d 0 c := rfl
theorem V_succ (q d : Fin 2) (h : Fin 3) (c : Dev nD) : V m q d ((h : ℕ) + 1) c = addf (V m q d h (frm d c)) (own m q d h.succ c) := by
  fin_cases h <;> rfl
theorem V_four (q d : Fin 2) (c : Dev nD) : V m q d 4 c = fX (V m q d 3 c) := rfl

theorem N_src (q d : Fin 2) (h : ℕ) : (srcM q d h).view.dmaCredit = N := by
  match h with
  | 4 => rfl
  | 5 => rfl
  | 6 => rfl
  | 0 => rfl
  | 1 => rfl
  | 2 => rfl
  | 3 => rfl
  | _ + 7 => rfl

theorem hop_eq (h : ℕ) : 2 * rnd h + (slot h : ℕ) = h := Nat.div_add_mod h 2

/-- A copy starts: source, destination and a still semaphore become the copy under way. -/
theorem start_rule (c : Dev nD) {A B Z Fl : sProp 𝕄} (O : sProp 𝕄) {p p' : Pr F} {Q : PUnit.{1} → sProp 𝕄}
    (h : iprop(A ∗ B ∗ Z) ⊢ iprop((Fl -∗ WP c p Q) -∗ WP c p' Q)) :
    iprop(G m K ∗ (A ∗ B ∗ Z ∗ emp) ∗ O) ⊢ iprop((iprop((Fl ∗ emp) ∗ O) -∗ WP c p Q) -∗ WP c p' Q) := by
  iintro ⟨#HG, ⟨HA, HB, HZ, -⟩, HO⟩ Hk
  iapply h $$ [HA HB HZ]
  · isplitl [HA]; · iexact HA
    isplitl [HB] <;> iassumption
  iintro Hf
  iapply Hk
  isplitl [Hf]
  · isplitl [Hf]; · iexact Hf
    iempintro
  iexact HO

/-- A copy has ended: what it moved, and the semaphore still again. -/
theorem wait_rule (c : Dev nD) {D E Z Fl O : sProp 𝕄} {p p' : Pr F} {Q : PUnit.{1} → sProp 𝕄}
    (h : iprop(G m K ∗ Fl ∗ O) ⊢ iprop((iprop((D ∗ E) ∗ Z ∗ O) -∗ WP c p Q) -∗ WP c p' Q)) :
    iprop(G m K ∗ (Fl ∗ emp) ∗ O) ⊢ iprop((iprop((D ∗ E ∗ Z ∗ emp) ∗ O) -∗ WP c p Q) -∗ WP c p' Q) := by
  iintro ⟨#HG, ⟨HF, -⟩, HO⟩ Hk
  iapply h $$ [HF HO]
  · isplitr; · iexact HG
    isplitl [HF] <;> iassumption
  iintro ⟨⟨HD, HE⟩, HZ, HO⟩
  iapply Hk
  isplitl [HD HE HZ]
  · isplitl [HD]; · iexact HD
    isplitl [HE]; · iexact HE
    isplitl [HZ]; · iexact HZ
    iempintro
  iexact HO

/-! ## Every instruction does what its list says -/

theorem some_of {c : Dev nD} {sp : Space} {M : Memref sig .tc sp S1024x1024 .f32} {X : FVec F S1024x1024 .f32} : (has c M fullShare X : sProp 𝕄) ⊢ some_ c M := by
  unfold has owns some_
  iintro ⟨%f, %hf, H⟩
  iexists f; iexact H

set_option maxHeartbeats 2000000 in
theorem ins_sound (i : Ins) (c : Dev nD) (ds ds' : List Due) (h : i.dues ds = some ds') (k : PUnit.{1} → Pr F) (Q : PUnit.{1} → sProp 𝕄) :
    iprop(G m K ∗ den m c i.pre ∗ owe c ds) ⊢ iprop((iprop(den m c i.post ∗ owe c ds') -∗ WP c (k ⟨⟩) Q) -∗ WP c (i.run c k) Q) := by
  cases i with
  | seedS q d =>
    obtain ⟨rfl, -⟩ := dues_none rfl h
    exact start_rule m K c _ (dma_start c k Q (argK q d 0 c) (accM q d) (ldS q d) (N_acc q d) fullShare (own m q d 0 c))
  | loadS q d j =>
    obtain ⟨rfl, -⟩ := dues_none rfl h
    exact start_rule m K c _ (dma_start c k Q (argK q d j c) (locM d) (ldS q d) (N_loc d) fullShare (own m q d j c))
  | storeS q d j =>
    obtain ⟨rfl, -⟩ := dues_none rfl h
    simp only [Ins.pre, Ins.post, den, srcR_den]
    exact start_rule m K c _ (dma_start c k Q (srcM q d (stHop j)) (outK q d j c) (stS q d) (N_out _ _) fullShare.right (srcV m q d (stHop j) c))
  | seedW q d =>
    obtain ⟨rfl, hl⟩ := dues_none rfl h
    refine wait_rule m K c (D := has c (argK q d 0 c) fullShare (own m q d 0 c)) (E := has c (accM q d) fullShare (own m q d 0 c)) (Z := semVal ((c : Thread nD τ), .dma (ldS q d)) 0) ?_
    refine (dma_wait m K c k Q (accM q d) (accM q d) (ldS q d) (N_acc q d) (h₁ := ((View.wordExact_bits rfl).reshape _ _)) (h₂ := ((View.wordExact_bits rfl).reshape _ _)) _ ds' hl).trans ?_
    iintro H Hk
    iapply H
    iintro ⟨⟨HA, HB⟩, HC⟩
    iapply Hk
    isplitl [HA HB]
    · isplitl [HB] <;> iassumption
    iexact HC
  | loadW q d j =>
    obtain ⟨rfl, hl⟩ := dues_none rfl h
    refine wait_rule m K c (D := has c (argK q d j c) fullShare (own m q d j c)) (E := has c (locM d) fullShare (own m q d j c)) (Z := semVal ((c : Thread nD τ), .dma (ldS q d)) 0) ?_
    refine (dma_wait m K c k Q (locM d) (locM d) (ldS q d) (N_loc d) (h₁ := ((View.wordExact_bits rfl).reshape _ _)) (h₂ := ((View.wordExact_bits rfl).reshape _ _)) _ ds' hl).trans ?_
    iintro H Hk
    iapply H
    iintro ⟨⟨HA, HB⟩, HC⟩
    iapply Hk
    isplitl [HA HB]
    · isplitl [HB] <;> iassumption
    iexact HC
  | storeW q d j =>
    obtain ⟨rfl, hl⟩ := dues_none rfl h
    simp only [Ins.pre, Ins.post, den, srcR_den]
    exact wait_rule m K c (dma_wait m K c k Q (outP q d j) (outP q d j) (stS q d) (N_out _ _) _ ds' hl)
  | send q d hp =>
    obtain rfl := dues_some rfl h
    exact hop_send m K c k Q q d hp _ (dv_eq d c) ds'
  | sendW q d hp =>
    obtain ⟨rfl, hl⟩ := dues_none rfl h
    have hr : rnd hp < 3 := by have := hp.isLt; unfold rnd; omega
    simp only [Ins.pre, Ins.post, den, srcR_den, srcV_eq]
    have hw := cell_wait m K c k Q (.snd q d (slot hp)) (rnd hp) hr (w := .waitDma2 (sndS q d (slot hp)) (srcM q d hp) (srcM q d hp) (srcM_exact q d hp) (srcM_exact q d hp))
      (fun Kt => (wpE_waitDma2_eq 𝒱₀ (c : Thread nD τ) none Set.univ Kt).trans (by rw [N_src]; rfl)) ds' hl
    have hp' : bigSep (dutiesOf (.snd q d (slot hp)) (rnd hp)) (pay m c (.snd q d (slot hp)) (rnd hp)) = has c (srcM q d hp) fullShare.left (V m q d (stage hp) c) := by
      rw [show dutiesOf (.snd q d (slot hp)) (rnd hp) = {0} from if_pos hr, bigSep_singleton]
      show has c (srcM q d (2 * rnd hp + slot hp)) fullShare.left (V m q d (stage (2 * rnd hp + slot hp)) c) = _
      rw [hop_eq]
    rw [hp'] at hw
    dsimp only [Res.den, Who.dev, Sh.val] at hw ⊢
    iintro ⟨#HG, ⟨Ha, Hc, -⟩, HO⟩ Hk
    iapply hw $$ [Ha Hc HO]
    · isplitr; · iexact HG
      isplitl [Ha]; · iexact Ha
      isplitl [Hc] <;> iassumption
    iintro ⟨Ha, Hr, Hp, HO⟩
    iapply Hk
    isplitl [Ha Hr Hp]
    · isplitl [Ha]; · iexact Ha
      isplitl [Hr]; · iexact Hr
      isplitl [Hp]; · iexact Hp
      iempintro
    iexact HO
  | recvW q d hp =>
    obtain ⟨rfl, hl⟩ := dues_none rfl h
    have hr : rnd hp < 3 := by have := hp.isLt; unfold rnd; omega
    have hw := cell_wait m K c k Q (.rcv q d (slot hp)) (rnd hp) hr
      (w := .waitDma2 (rcvS q d (slot hp)) (commM q d (slot hp)) (commM q d (slot hp)) ((View.wordExact_bits rfl).reshape _ _) ((View.wordExact_bits rfl).reshape _ _))
      (fun Kt => wpE_waitDma2_eq 𝒱₀ (c : Thread nD τ) none Set.univ Kt) ds' hl
    have hp' : bigSep (dutiesOf (.rcv q d (slot hp)) (rnd hp)) (pay m c (.rcv q d (slot hp)) (rnd hp))
        = iprop(has c (commM q d (slot hp)) fullShare (V m q d (stage hp) (frm d c)) ∗ reached ER (cell (.cr (slot hp)) (frm d c)) (rnd hp)) := by
      rw [show dutiesOf (.rcv q d (slot hp)) (rnd hp) = {0} from if_pos hr, bigSep_singleton]
      show iprop(has c (commM q d (slot hp)) fullShare (V m q d (stage (2 * rnd hp + slot hp)) (frm d c)) ∗ _) = _
      rw [hop_eq]
    rw [hp'] at hw
    simp only [Ins.pre, Ins.post, den]
    dsimp only [Res.den, Who.dev, Sh.val] at hw ⊢
    iintro ⟨#HG, ⟨Ha, Hc, -⟩, HO⟩ Hk
    iapply hw $$ [Ha Hc HO]
    · isplitr; · iexact HG
      isplitl [Ha]; · iexact Ha
      isplitl [Hc] <;> iassumption
    iintro ⟨Ha, Hr, ⟨Hp, Hq⟩, HO⟩
    iapply Hk
    isplitl [Ha Hr Hp Hq]
    · isplitl [Ha]; · iexact Ha
      isplitl [Hr]; · iexact Hr
      isplitl [Hp]; · iexact Hp
      isplitl [Hq]; · iexact Hq
      iempintro
    iexact HO
  | comp q d hp =>
    obtain ⟨rfl, -⟩ := dues_none rfl h
    simp only [Ins.pre, Ins.post, den]
    dsimp only [Res.den, Sh.val]
    rw [V_succ]
    iintro ⟨#HG, ⟨Ha, Hb, Hc, -⟩, HO⟩ Hk
    iapply (add_ok c k Q q d (slot hp) (V m q d hp (frm d c)) (own m q d hp.succ c) (V m q d hp c)) $$ [Ha Hb Hc]
    · isplitl [Ha]; · iexact Ha
      isplitl [Hb] <;> iassumption
    iintro ⟨Ha, Hb, Hc⟩
    iapply Hk
    isplitl [Ha Hb Hc]
    · isplitl [Ha]; · iexact Ha
      isplitl [Hb]; · iexact Hb
      isplitl [Hc]; · iexact Hc
      iempintro
    iexact HO
  | fin q d =>
    obtain ⟨rfl, -⟩ := dues_none rfl h
    simp only [Ins.pre, Ins.post, den]
    dsimp only [Res.den, Sh.val]
    rw [V_four]
    iintro ⟨#HG, ⟨Ha, -⟩, HO⟩ Hk
    iapply (fin_ok c k Q q d (V m q d 3 c)) $$ Ha
    iintro Ha
    iapply Hk
    isplitl [Ha]
    · isplitl [Ha]; · iexact Ha
      iempintro
    iexact HO
  | barSig d =>
    obtain rfl := dues_some rfl h
    have hs := cell_signal m K c k Q ⟨.fr d, .bar, 0, d⟩ (dv (opp d) c) ((dv_eq _ _).trans (nxt_opp d c)) barS rfl (show 0 < 1 by decide) rfl rfl ds'
    have hp : pay m (frm d c) .bar 0 d = iprop(some_ c (commM 0 d 0) ∗ some_ c (commM 0 d 1) ∗ some_ c (commM 1 d 0) ∗ some_ c (commM 1 d 1)) := by
      show iprop(some_ (nxt d (frm d c)) _ ∗ some_ (nxt d (frm d c)) _ ∗ some_ (nxt d (frm d c)) _ ∗ some_ (nxt d (frm d c)) _) = _
      rw [nxt_frm]
    dsimp only [Who.dev] at hs
    rw [hp] at hs
    simp only [Ins.pre, Ins.post, den]
    dsimp only [Res.den, Who.dev, Sh.val] at hs ⊢
    iintro ⟨#HG, ⟨Ht, Hr, Ha, Hb, Hc, Hd, -⟩, HO⟩ Hk
    iapply hs $$ [Ht Hr Ha Hb Hc Hd HO]
    · isplitr; · iexact HG
      isplitl [Ht]; · iexact Ht
      isplitl [Hr]; · iexact Hr
      isplitl [Ha Hb Hc Hd]
      · isplitl [Ha]; · iexact Ha
        isplitl [Hb]; · iexact Hb
        isplitl [Hc] <;> iassumption
      iexact HO
    iintro HO
    iapply Hk
    isplitr; · iempintro
    iexact HO
  | crSig d kk =>
    obtain rfl := dues_some rfl h
    have hr : rnd kk < 2 := by have := kk.isLt; unfold rnd; omega
    have hs := cell_signal m K c k Q ⟨.fr d, .cr (slot kk), rnd kk, d⟩ (dv (opp d) c) ((dv_eq _ _).trans (nxt_opp d c)) (crS (slot kk)) rfl hr rfl rfl ds'
    have hp : pay m (frm d c) (.cr (slot kk)) (rnd kk) d = iprop(some_ c (commM 0 d (slot kk)) ∗ some_ c (commM 1 d (slot kk))
        ∗ reached ER (cell (.rcv 0 d (slot kk)) c) (rnd kk + 1) ∗ reached ER (cell (.rcv 1 d (slot kk)) c) (rnd kk + 1)) := by
      show iprop(some_ (nxt d (frm d c)) _ ∗ some_ (nxt d (frm d c)) _ ∗ reached ER (cell _ (nxt d (frm d c))) _ ∗ reached ER (cell _ (nxt d (frm d c))) _) = _
      rw [nxt_frm]
    dsimp only [Who.dev] at hs
    rw [hp] at hs
    simp only [Ins.pre, Ins.post, den]
    dsimp only [Res.den, Sh.val, Who.dev] at hs ⊢
    iintro ⟨#HG, ⟨Ht, Hr, Ha, Hb, Hc, Hd, -⟩, HO⟩ Hk
    iapply hs $$ [Ht Hr Ha Hb Hc Hd HO]
    · isplitr; · iexact HG
      isplitl [Ht]; · iexact Ht
      isplitl [Hr]; · iexact Hr
      isplitl [Ha Hb Hc Hd]
      · isplitl [Ha]; · iapply some_of $$ Ha
        isplitl [Hb]; · iapply some_of $$ Hb
        isplitl [Hc] <;> iassumption
      iexact HO
    iintro HO
    iapply Hk
    isplitr; · iempintro
    iexact HO
  | barW =>
    obtain ⟨rfl, hl⟩ := dues_none rfl h
    have hw := cell_wait m K c k Q .bar 0 (by decide) (w := .semWait barS 2) (fun Kt => wpE_semWait_eq 𝒱₀ (c : Thread nD τ) none Set.univ Kt) ds' hl
    rw [show dutiesOf .bar 0 = Finset.univ from rfl, bigSep_univ_two] at hw
    simp only [Ins.pre, Ins.post, den]
    dsimp only [Res.den, Who.dev, Sh.val] at hw ⊢
    iintro ⟨#HG, ⟨Ha, Hc, -⟩, HO⟩ Hk
    iapply hw $$ [Ha Hc HO]
    · isplitr; · iexact HG
      isplitl [Ha]; · iexact Ha
      isplitl [Hc] <;> iassumption
    dsimp only [pay]
    iintro ⟨Ha, -, ⟨⟨H0, H1, H2, H3⟩, ⟨H4, H5, H6, H7⟩⟩, HO⟩
    iapply Hk
    isplitr [HO]
    · isplitl [Ha]; · iexact Ha
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iempintro
    iexact HO
  | crW kk =>
    obtain ⟨rfl, hl⟩ := dues_none rfl h
    have hr : rnd kk < 2 := by have := kk.isLt; unfold rnd; omega
    have hw := cell_wait m K c k Q (.cr (slot kk)) (rnd kk) hr (w := .semWait (crS (slot kk)) 2) (fun Kt => wpE_semWait_eq 𝒱₀ (c : Thread nD τ) none Set.univ Kt) ds' hl
    rw [show dutiesOf (.cr (slot kk)) (rnd kk) = Finset.univ from if_pos hr, bigSep_univ_two] at hw
    simp only [Ins.pre, Ins.post, den]
    dsimp only [Res.den, Who.dev, Sh.val] at hw ⊢
    iintro ⟨#HG, ⟨Ha, Hc, -⟩, HO⟩ Hk
    iapply hw $$ [Ha Hc HO]
    · isplitr; · iexact HG
      isplitl [Ha]; · iexact Ha
      isplitl [Hc] <;> iassumption
    dsimp only [pay]
    iintro ⟨Ha, Hr, ⟨⟨H0, H1, H2, H3⟩, ⟨H4, H5, H6, H7⟩⟩, HO⟩
    iapply Hk
    isplitr [HO]
    · isplitl [Ha]; · iexact Ha
      isplitl [Hr]; · iexact Hr
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iempintro
    iexact HO
  | split q d hp =>
    obtain ⟨rfl, -⟩ := dues_none rfl h
    simp only [Ins.pre, Ins.post, den, srcR_den]
    dsimp only [Sh.val]
    iintro ⟨#HG, ⟨Ha, -⟩, HO⟩ Hk
    ihave H2 := (owns_halves (c : Thread nD τ) (srcM q d hp) fullShare (srcV m q d hp c)).1 $$ Ha
    icases H2 with ⟨Hl, Hr⟩
    iapply Hk
    isplitr [HO]
    · isplitl [Hl]; · iexact Hl
      isplitl [Hr]; · iexact Hr
      iempintro
    iexact HO
  | join q d hp =>
    obtain ⟨rfl, -⟩ := dues_none rfl h
    simp only [Ins.pre, Ins.post, den, srcR_den]
    dsimp only [Sh.val]
    iintro ⟨#HG, ⟨Hl, Hr, -⟩, HO⟩ Hk
    iapply Hk
    isplitr [HO]
    · isplitl [Hl Hr]
      · iapply (owns_halves (c : Thread nD τ) (srcM q d hp) fullShare (srcV m q d hp c)).2
        isplitl [Hl] <;> iassumption
      iempintro
    iexact HO

/-! ## The whole program -/

theorem den_append (c : Dev nD) (l l' : List Res) : den m c (l ++ l') = iprop(den m c l ∗ den m c l') := by
  induction l with
  | nil => exact (equiv_iff.mp emp_sep).symm
  | cons r l ih => simp only [List.cons_append, den, ih]; exact equiv_iff.mp ⟨BI.sep_assoc', BI.sep_assoc⟩

theorem den_erase (c : Dev nD) (r : Res) (L : List Res) (h : r ∈ L) : den m c L ⊢ iprop(r.den m c ∗ den m c (L.erase r)) := by
  induction L with
  | nil => exact absurd h (by simp)
  | cons a L ih =>
    by_cases ha : a = r
    · subst ha; rw [List.erase_cons_head]; exact Entails.refl _
    · rw [List.erase_cons_tail (by simpa using ha)]
      have hr : r ∈ L := (List.mem_cons.mp h).resolve_left (fun e => ha e.symm)
      simp only [den]
      iintro ⟨Ha, HL⟩
      ihave H := (ih hr) $$ HL
      icases H with ⟨Hr, HL⟩
      isplitl [Hr]; · iexact Hr
      isplitl [Ha] <;> iassumption

theorem take_sound (c : Dev nD) (p : List Res) : ∀ (L L' : List Res), take p L = some L' → (den m c L ⊢ iprop(den m c p ∗ den m c L')) := by
  induction p with
  | nil =>
    intro L L' h
    obtain rfl := Option.some.inj h
    simp only [den]
    iintro H
    isplitr; · iempintro
    iexact H
  | cons r p ih =>
    intro L L' h
    unfold take at h
    split at h
    · rename_i hr
      simp only [den]
      refine (den_erase m c r L hr).trans ?_
      iintro ⟨Hr, HL⟩
      ihave H := (ih _ _ h) $$ HL
      icases H with ⟨Hp, HL⟩
      isplitr [HL]
      · isplitl [Hr] <;> iassumption
      iexact HL
    · exact absurd h (by simp)

theorem exec_sound (c : Dev nD) (l : List Ins) : ∀ (L L' : List Res) (ds ds' : List Due), exec l L ds = some (L', ds') →
    (iprop(G m K ∗ den m c L ∗ owe c ds) ⊢ WP c (run c l) (fun _ => iprop(den m c L' ∗ owe c ds'))) := by
  induction l with
  | nil =>
    intro L L' ds ds' h
    obtain ⟨rfl, rfl⟩ := Prod.mk.inj (Option.some.inj h)
    iintro ⟨#HG, H⟩
    unfold run WP
    rw [wp_ret]
    imodintro
    iexact H
  | cons i l ih =>
    intro L L' ds ds' h
    unfold exec at h
    split at h
    · rename_i L₁ ds₁ hL hds
      iintro ⟨#HG, HL, HO⟩
      ihave H := (take_sound m c _ _ _ hL) $$ HL
      icases H with ⟨Hp, HL⟩
      iapply (ins_sound m K i c ds ds₁ hds (fun _ => run c l) _) $$ [Hp HO]
      · isplitr; · iexact HG
        isplitl [Hp] <;> iassumption
      iintro ⟨Hq, HO⟩
      iapply (ih _ _ _ _ h)
      isplitr; · iexact HG
      isplitr [HO]
      · rw [den_append]
        isplitl [Hq] <;> iassumption
      iexact HO
    · exact absurd h (by simp)

/-- The program, from what a device starts with to what it ends with. -/
theorem prog_sound (c : Dev nD) : iprop(G m K ∗ den m c start ∗ owe c dues) ⊢ WP c (run c prog) (fun _ => iprop(den m c finish ∗ owe c [])) := by
  obtain ⟨⟨L, ds⟩, he, ht⟩ := Option.bind_eq_some_iff.mp exec_prog
  obtain ⟨L', hL, rfl⟩ := Option.map_eq_some_iff.mp ht
  refine (exec_sound m K c prog start L dues [] he).trans (wp_mono _ _ _ ?_)
  intro _
  iintro ⟨HL, HO⟩
  ihave H := (take_sound m c _ _ _ hL) $$ HL
  icases H with ⟨Hp, -⟩
  isplitl [Hp] <;> iassumption

end Cert.RingProof

end
-- ==== Proof.Pieces.lean ====
/-
The buffers in pieces: each whole buffer is its pieces, and a device's list of pieces is the buffers whole.
-/
module

public import proofs.«01_k».proof.Proof.Sound
public import Idealize.ShloMosaic.Lib.Pipeline.BigSepL

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Lists of resources as separate conjunctions -/

theorem den_eq (c : Dev nD) : ∀ l : List Res, den m c l = bigSepL l (Res.den m c)
  | [] => rfl
  | r :: l => by rw [bigSepL_cons', ← den_eq c l]; rfl

theorem bigSep_bits (Φ : Fin 2 → sProp 𝕄) : bigSep Finset.univ Φ = iprop(Φ 0 ∗ Φ 1) :=
  bigSep_univ_eq_bigSepL [0, 1] (by decide) (by decide) Φ

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem den_singleton (c : Dev nD) (r : Res) : den m c [r] = r.den m c := by rw [den_eq]; rfl

theorem den_pair (c : Dev nD) (r s : Res) : den m c [r, s] = iprop(r.den m c ∗ s.den m c) := by rw [den_eq]; rfl

theorem den_bits (c : Dev nD) (f : Fin 2 → List Res) : den m c (bits.flatMap f) = bigSep Finset.univ fun b => den m c (f b) := by
  rw [bigSep_bits, show bits.flatMap f = f 0 ++ f 1 from by simp [bits], den_append]

theorem den_bits_map (c : Dev nD) (f : Fin 2 → Res) : den m c (bits.map f) = bigSep Finset.univ fun b => (f b).den m c := by
  rw [bigSep_bits, show bits.map f = [f 0, f 1] from rfl, den_pair]

theorem den_four (c : Dev nD) (f : Fin 4 → Res) : den m c (([0, 1, 2, 3] : List (Fin 4)).map f) = bigSep Finset.univ fun k => (f k).den m c := by
  rw [bigSep_four, den_eq]; rfl

theorem den_lanes (c : Dev nD) (f : Fin 2 → Fin 2 → List Res) :
    den m c (ofLanes f) = bigSep Finset.univ fun q => bigSep Finset.univ fun d => den m c (f q d) := by
  unfold ofLanes
  rw [den_bits]
  exact bigSep_congr fun q _ => den_bits m c _

/-! ## A buffer of scratch -/

theorem some_split (c : Dev nD) (b : Ref sig .tc) {T : Type} [Fintype T] [DecidableEq T] (R : T → Rect b.ty.shape)
    (hd : ∀ t t', t ≠ t' → Disjoint (R t).set (R t').set) (hcov : Finset.univ.biUnion (fun t => (R t).set) = Finset.univ) :
    iprop(∃ f : Buf (Elt F) ((c : Thread nD τ).loc b), ((c : Thread nD τ).loc b) ↦{fullShare} f)
      ⊢ (bigSep Finset.univ fun t => iprop(∃ f : Buf (Elt F) ((c : Thread nD τ).loc b), ((c : Thread nD τ).loc b) ↦[(R t).set]{fullShare} f) : sProp 𝕄) := by
  iintro ⟨%f, H⟩
  iapply (show (((c : Thread nD τ).loc b) ↦{fullShare} f)
      ⊢ (bigSep Finset.univ fun t => iprop(∃ f : Buf (Elt F) ((c : Thread nD τ).loc b), ((c : Thread nD τ).loc b) ↦[(R t).set]{fullShare} f) : sProp 𝕄) from by
    have e := pointsTo_biUnion (ℓ := (c : Thread nD τ).loc b) (f := f) (q := fullShare) (Ix := ℕ) (Name := ℕ) (U := UU) (Lvl := ℕ) Finset.univ (fun t => (R t).set) fun t _ t' _ h => hd t t' h
    rw [hcov] at e
    exact (Entails.of_eq e).trans (bigSep_mono fun t _ => show (((c : Thread nD τ).loc b) ↦[(R t).set]{fullShare} f : sProp 𝕄) ⊢ _ from by iintro H; iexists f; iexact H))
  iexact H

include m in
theorem some_join (c : Dev nD) (b : Ref sig .tc) {T : Type} [Fintype T] [DecidableEq T] [Inhabited T] (R : T → Rect b.ty.shape)
    (hd : ∀ t t', t ≠ t' → Disjoint (R t).set (R t').set) (hcov : Finset.univ.biUnion (fun t => (R t).set) = Finset.univ) :
    (bigSep Finset.univ fun t => iprop(∃ f : Buf (Elt F) ((c : Thread nD τ).loc b), ((c : Thread nD τ).loc b) ↦[(R t).set]{fullShare} f) : sProp 𝕄)
      ⊢ iprop(∃ f : Buf (Elt F) ((c : Thread nD τ).loc b), ((c : Thread nD τ).loc b) ↦{fullShare} f) := by
  haveI (t : T) : Inhabited (Buf (Elt F) ((c : Thread nD τ).loc b)) := ⟨m ((c : Thread nD τ).loc b)⟩
  refine (BI.bigSep_exists_pi Finset.univ (fun (t : T) (f : Buf (Elt F) ((c : Thread nD τ).loc b)) => (((c : Thread nD τ).loc b) ↦[(R t).set]{fullShare} f : sProp 𝕄))).trans ?_
  iintro ⟨%fs, H⟩
  ihave H2 := (pointsTo_biUnion_join Finset.univ (fun t => (R t).set) fs (m ((c : Thread nD τ).loc b)) fun t _ t' _ h => hd t t' h) $$ H
  icases H2 with ⟨%g, -, H⟩
  iexists g
  rw [← hcov]
  iexact H

theorem acc_disjoint (t t' : Fin 2 × Fin 2) (h : t ≠ t') : Disjoint (accR t.1 t.2).set (accR t'.1 t'.2).set := by
  rw [Finset.disjoint_left]
  intro i hi hi'
  rw [Rect.mem_set_unit] at hi hi'
  have h0 := hi 0; have h0' := hi' 0; have h1 := hi 1; have h1' := hi' 1
  simp at h0 h0' h1 h1'
  exact h (Prod.ext (Fin.ext (by omega)) (Fin.ext (by omega)))

theorem acc_cover : Finset.univ.biUnion (fun t : Fin 2 × Fin 2 => (accR t.1 t.2).set) = Finset.univ := by
  refine Finset.eq_univ_of_forall fun i => Finset.mem_biUnion.mpr ⟨(⟨i 0, (i 0).isLt⟩, ⟨i 1, (i 1).isLt⟩), Finset.mem_univ _, Rect.mem_set_unit.mpr fun a => ?_⟩
  have := (i a).isLt
  fin_cases a <;> simp at this ⊢ <;> omega

theorem comm_disjoint (t t' : Fin 2 × Fin 2 × Fin 2) (h : t ≠ t') : Disjoint (commR t.1 t.2.1 t.2.2).set (commR t'.1 t'.2.1 t'.2.2).set := by
  rw [Finset.disjoint_left]
  intro i hi hi'
  rw [Rect.mem_set_unit] at hi hi'
  have h0 := hi 0; have h0' := hi' 0; have h1 := hi 1; have h1' := hi' 1; have h2 := hi 2; have h2' := hi' 2
  simp at h0 h0' h1 h1' h2 h2'
  exact h (Prod.ext (Fin.ext (by omega)) (Prod.ext (Fin.ext (by omega)) (Fin.ext (by omega))))

theorem comm_cover : Finset.univ.biUnion (fun t : Fin 2 × Fin 2 × Fin 2 => (commR t.1 t.2.1 t.2.2).set) = Finset.univ := by
  refine Finset.eq_univ_of_forall fun i => Finset.mem_biUnion.mpr ⟨(⟨i 0, (i 0).isLt⟩, ⟨i 1, (i 1).isLt⟩, ⟨i 2, (i 2).isLt⟩), Finset.mem_univ _, Rect.mem_set_unit.mpr fun a => ?_⟩
  have := (i a).isLt
  fin_cases a <;> simp at this ⊢ <;> omega

theorem loc_disjoint (t t' : Fin 2) (h : t ≠ t') : Disjoint (locR t).set (locR t').set := by
  rw [Finset.disjoint_left]
  intro i hi hi'
  rw [Rect.mem_set_unit] at hi hi'
  have h0 := hi 0; have h0' := hi' 0
  simp at h0 h0'
  exact h (Fin.ext (by omega))

theorem loc_cover : Finset.univ.biUnion (fun t : Fin 2 => (locR t).set) = Finset.univ := by
  refine Finset.eq_univ_of_forall fun i => Finset.mem_biUnion.mpr ⟨⟨i 0, (i 0).isLt⟩, Finset.mem_univ _, Rect.mem_set_unit.mpr fun a => ?_⟩
  have := (i a).isLt
  fin_cases a <;> simp at this ⊢ <;> omega

/-! ## The argument and the result -/

/-- The piece `(q, d)` of chunk `k` as a rectangle. -/
abbrev pieceR (t : Fin 2 × Fin 2 × Fin 4) : Rect S8192x2048 :=
  Rect.unit (s := S8192x2048) (corner t.1 t.2.1 t.2.2) S1024x1024.size (inb_corner t.1 t.2.1 t.2.2)

theorem piece_disjoint (t t' : Fin 2 × Fin 2 × Fin 4) (h : t ≠ t') : Disjoint (pieceR t).set (pieceR t').set := by
  rw [Finset.disjoint_left]
  intro i hi hi'
  rw [Rect.mem_set_unit] at hi hi'
  have h0 := hi 0; have h0' := hi' 0; have h1 := hi 1; have h1' := hi' 1
  simp [corner] at h0 h0' h1 h1'
  obtain ⟨q, d, k⟩ := t
  obtain ⟨q', d', k'⟩ := t'
  dsimp only at *
  exact h (Prod.ext (Fin.ext (show q.val = q'.val by omega)) (Prod.ext (Fin.ext (show d.val = d'.val by omega)) (Fin.ext (show k.val = k'.val by omega))))

theorem piece_cover : Finset.univ.biUnion (fun t : Fin 2 × Fin 2 × Fin 4 => (pieceR t).set) = Finset.univ := by
  refine Finset.eq_univ_of_forall fun i => ?_
  have h0 : (i 0).val < 8192 := (i 0).isLt
  have h1 : (i 1).val < 2048 := (i 1).isLt
  refine Finset.mem_biUnion.mpr ⟨(⟨(i 0).val / 1024 % 2, by omega⟩, ⟨(i 1).val / 1024, by omega⟩, ⟨(i 0).val / 2048, by omega⟩), Finset.mem_univ _, Rect.mem_set_unit.mpr fun a => ?_⟩
  fin_cases a <;> simp [corner] <;> omega

/-- The chunk a piece of number `j` is of, counted against the direction. -/
theorem chunk_injective : ∀ (d : Fin 2) (c : Dev nD), Function.Injective fun j : Fin 4 => (back d j c : Fin 4) := by decide
def chunk (d : Fin 2) (c : Dev nD) : Fin 4 ≃ Fin 4 := Equiv.ofBijective _ (Finite.injective_iff_bijective.mp (chunk_injective d c))

theorem argM_congr {o o' : Fin 2 → ℕ} (h : o = o') (ho) (ho') : argM o ho = argM o' ho' := by subst h; rfl
theorem outM_congr {o o' : Fin 2 → ℕ} (h : o = o') (ho) (ho') : outM o ho = outM o' ho' := by subst h; rfl
theorem argK_eq (q d : Fin 2) (j : Fin 4) (c : Dev nD) : argK q d j c = argP q d (chunk d c j) := argM_congr (argO_eq q d j c) _ _
theorem outK_eq (q d : Fin 2) (j : Fin 4) (c : Dev nD) : outK q d j c = outP q d (chunk d c j) := outM_congr (outO_eq q d j c) _ _

/-- Pieces of a lane counted against the direction are the pieces by their chunks. -/
theorem pieces_eq (c : Dev nD) (Φ : Fin 2 → Fin 2 → Fin 4 → sProp 𝕄) :
    (bigSep Finset.univ fun q => bigSep Finset.univ fun d => bigSep Finset.univ fun j => Φ q d (chunk d c j))
      = bigSep Finset.univ fun t : Fin 2 × Fin 2 × Fin 4 => Φ t.1 t.2.1 t.2.2 := by
  rw [bigSep_univ_prod]
  refine bigSep_congr fun q _ => ?_
  rw [bigSep_univ_prod]
  exact bigSep_congr fun d _ => (bigSep_univ_equiv (chunk d c) (Φ q d)).symm

/-- What every device's result holds at the piece `(q, d)` of chunk `k`. -/
def W (q d : Fin 2) (k : Fin 4) : FVec F S1024x1024 .f32 := V m q d 4 (frm d (k : Dev nD))

theorem srcV_hop (q d : Fin 2) (j : Fin 4) (c : Dev nD) : srcV m q d (stHop j) c = W m q d (chunk d c j) := by
  show _ = V m q d 4 (frm d (back d j c))
  fin_cases j
  · show V m q d 4 (frm d c) = V m q d 4 (frm d (back d 0 c)); rw [back_zero]
  · rfl
  · show V m q d 4 (frm d (frm d (frm d c))) = V m q d 4 (frm d (back d 2 c))
    rw [show frm d (frm d c) = back d 2 c from by revert d c; decide]
  · show V m q d 4 c = V m q d 4 (frm d (back d 3 c))
    rw [show frm d (back d 3 c) = c from by revert d c; decide]

/-- The result of the run, the same on every device. -/
def outBuf : FVec F S8192x2048 .f32 := Rect.glue pieceR piece_cover fun t => W m t.1 t.2.1 t.2.2

theorem outBuf_piece (t : Fin 2 × Fin 2 × Fin 4) (y : S1024x1024.Idx) : outBuf m ((pieceR t).emb y) = W m t.1 t.2.1 t.2.2 y :=
  Rect.glue_emb pieceR piece_cover piece_disjoint (fun t => W m t.1 t.2.1 t.2.2) t y

theorem arg_pieces (c : Dev nD) : den m c (ofLanes fun q d => ([0, 1, 2, 3] : List (Fin 4)).map (.arg q d))
    = bigSep Finset.univ fun t : Fin 2 × Fin 2 × Fin 4 => has c (argP t.1 t.2.1 t.2.2) fullShare (T m t.1 t.2.1 t.2.2 c) := by
  rw [den_lanes, ← pieces_eq c fun q d k => has c (argP q d k) fullShare (T m q d k c)]
  refine bigSep_congr fun q _ => bigSep_congr fun d _ => ?_
  rw [den_four]
  refine bigSep_congr fun j _ => ?_
  dsimp only [Res.den]
  rw [argK_eq]
  rfl

theorem outU_pieces (c : Dev nD) : den m c (ofLanes fun q d => ([0, 1, 2, 3] : List (Fin 4)).map (.outU q d))
    = bigSep Finset.univ fun t : Fin 2 × Fin 2 × Fin 4 => some_ c (outP t.1 t.2.1 t.2.2) := by
  rw [den_lanes, ← pieces_eq c fun q d k => some_ c (outP q d k)]
  refine bigSep_congr fun q _ => bigSep_congr fun d _ => ?_
  rw [den_four]
  refine bigSep_congr fun j _ => ?_
  dsimp only [Res.den]
  rw [outK_eq]

theorem outD_pieces (c : Dev nD) : den m c (ofLanes fun q d => ([0, 1, 2, 3] : List (Fin 4)).map (.outD q d))
    = bigSep Finset.univ fun t : Fin 2 × Fin 2 × Fin 4 => has c (outP t.1 t.2.1 t.2.2) fullShare (W m t.1 t.2.1 t.2.2) := by
  rw [den_lanes, ← pieces_eq c fun q d k => has c (outP q d k) fullShare (W m q d k)]
  refine bigSep_congr fun q _ => bigSep_congr fun d _ => ?_
  rw [den_four]
  refine bigSep_congr fun j _ => ?_
  dsimp only [Res.den]
  rw [outK_eq, srcV_hop]

theorem arg_split (c : Dev nD) : ((((c : Thread nD τ).loc main_arg0) ↦{fullShare} m ((c : Thread nD τ).loc main_arg0)) : sProp 𝕄)
    ⊢ den m c (ofLanes fun q d => ([0, 1, 2, 3] : List (Fin 4)).map (.arg q d)) := by
  rw [arg_pieces, ← owns_whole (c : Thread nD τ) main_arg0 fullShare]
  exact owns_rects (c : Thread nD τ) (Memref.whole main_arg0) fullShare pieceR (fun _ _ => rfl) piece_disjoint piece_cover _

theorem arg_join (c : Dev nD) : den m c (ofLanes fun q d => ([0, 1, 2, 3] : List (Fin 4)).map (.arg q d))
    ⊢ ((((c : Thread nD τ).loc main_arg0) ↦{fullShare} m ((c : Thread nD τ).loc main_arg0)) : sProp 𝕄) := by
  rw [arg_pieces, ← owns_whole (c : Thread nD τ) main_arg0 fullShare]
  exact owns_of_rects (c : Thread nD τ) (Memref.whole main_arg0) fullShare pieceR (fun _ _ => rfl) piece_disjoint piece_cover _

theorem out_split (c : Dev nD) (f : Buf (Elt F) ((c : Thread nD τ).loc main_v1)) : ((((c : Thread nD τ).loc main_v1) ↦{fullShare} f) : sProp 𝕄)
    ⊢ den m c (ofLanes fun q d => ([0, 1, 2, 3] : List (Fin 4)).map (.outU q d)) := by
  rw [outU_pieces, ← owns_whole (c : Thread nD τ) main_v1 fullShare]
  exact (owns_rects (c : Thread nD τ) (Memref.whole main_v1) fullShare pieceR (fun _ _ => rfl) piece_disjoint piece_cover _).trans
    (bigSep_mono fun t _ => some_of)

theorem out_join (c : Dev nD) : den m c (ofLanes fun q d => ([0, 1, 2, 3] : List (Fin 4)).map (.outD q d))
    ⊢ ((((c : Thread nD τ).loc main_v1) ↦{fullShare} outBuf m) : sProp 𝕄) := by
  rw [outD_pieces, ← owns_whole (c : Thread nD τ) main_v1 fullShare]
  have h := owns_of_rects (Val := Elt F) (Ix := ℕ) (Name := ℕ) (U := UU) (Lvl := ℕ) (c : Thread nD τ) (Memref.whole main_v1) fullShare pieceR (fun _ _ => rfl) piece_disjoint piece_cover (outBuf m)
  refine (Entails.of_eq (congrArg (bigSep Finset.univ) (funext fun t => ?_))).trans h
  exact congrArg (owns (c : Thread nD τ) (outP t.1 t.2.1 t.2.2) fullShare) (funext fun y => (outBuf_piece m t y).symm)

/-! ## The scratch buffers of a device -/

abbrev scr (c : Dev nD) (b : Ref sig .tc) : sProp 𝕄 :=
  iprop(∃ f : Buf (Elt F) ((c : Thread nD τ).loc b), ((c : Thread nD τ).loc b) ↦{fullShare} f)

theorem acc_set (q d : Fin 2) : (accM q d).view.set = (accR q d).set := (View.set_reshape _ _).trans (View.set_slice_whole _ _)
theorem comm_set (q d s : Fin 2) : (commM q d s).view.set = (commR q d s).set := (View.set_reshape _ _).trans (View.set_slice_whole _ _)
theorem loc_set (d : Fin 2) : (locM d).view.set = (locR d).set := (View.set_reshape _ _).trans (View.set_slice_whole _ _)

theorem some_acc (c : Dev nD) (q d : Fin 2) : (some_ c (accM q d) : sProp 𝕄)
    = iprop(∃ f : Buf (Elt F) ((c : Thread nD τ).loc cc0_scratch1), ((c : Thread nD τ).loc cc0_scratch1) ↦[(accR q d).set]{fullShare} f) := by
  unfold some_; rw [acc_set]
theorem some_comm (c : Dev nD) (q d s : Fin 2) : (some_ c (commM q d s) : sProp 𝕄)
    = iprop(∃ f : Buf (Elt F) ((c : Thread nD τ).loc cc0_scratch0), ((c : Thread nD τ).loc cc0_scratch0) ↦[(commR q d s).set]{fullShare} f) := by
  unfold some_; rw [comm_set]
theorem some_loc (c : Dev nD) (d : Fin 2) : (some_ c (locM d) : sProp 𝕄)
    = iprop(∃ f : Buf (Elt F) ((c : Thread nD τ).loc cc0_scratch2), ((c : Thread nD τ).loc cc0_scratch2) ↦[(locR d).set]{fullShare} f) := by
  unfold some_; rw [loc_set]

theorem acc_pieces (c : Dev nD) : den m c (ofLanes fun q d => [.accU q d])
    = bigSep Finset.univ fun t : Fin 2 × Fin 2 => iprop(∃ f : Buf (Elt F) ((c : Thread nD τ).loc cc0_scratch1), ((c : Thread nD τ).loc cc0_scratch1) ↦[(accR t.1 t.2).set]{fullShare} f) := by
  rw [den_lanes, bigSep_univ_prod]
  refine bigSep_congr fun q _ => bigSep_congr fun d _ => ?_
  rw [den_singleton]; exact some_acc c q d
theorem comm_pieces (c : Dev nD) : den m c (ofLanes fun q d => bits.map (.commU q d))
    = bigSep Finset.univ fun t : Fin 2 × Fin 2 × Fin 2 => iprop(∃ f : Buf (Elt F) ((c : Thread nD τ).loc cc0_scratch0), ((c : Thread nD τ).loc cc0_scratch0) ↦[(commR t.1 t.2.1 t.2.2).set]{fullShare} f) := by
  rw [den_lanes, bigSep_univ_prod]
  refine bigSep_congr fun q _ => ?_
  rw [bigSep_univ_prod]
  refine bigSep_congr fun d _ => ?_
  rw [den_bits_map]
  exact bigSep_congr fun s _ => some_comm c q d s
theorem loc_pieces (c : Dev nD) : den m c (bits.map .locU)
    = bigSep Finset.univ fun d : Fin 2 => iprop(∃ f : Buf (Elt F) ((c : Thread nD τ).loc cc0_scratch2), ((c : Thread nD τ).loc cc0_scratch2) ↦[(locR d).set]{fullShare} f) := by
  rw [den_bits_map]
  exact bigSep_congr fun d _ => some_loc c d

theorem accEnd (c : Dev nD) : den m c (ofLanes fun q d => [.acc q d .all 4]) ⊢ den m c (ofLanes fun q d => [.accU q d]) := by
  rw [den_lanes, den_lanes]
  refine bigSep_mono fun q _ => bigSep_mono fun d _ => ?_
  rw [den_singleton, den_singleton]
  exact some_of
theorem commEnd (c : Dev nD) : den m c (ofLanes fun q d => [.comm q d 0 .all 5, .comm q d 1 .all 6]) ⊢ den m c (ofLanes fun q d => bits.map (.commU q d)) := by
  rw [den_lanes, den_lanes]
  refine bigSep_mono fun q _ => bigSep_mono fun d _ => ?_
  rw [show bits.map (Res.commU q d) = [.commU q d 0, .commU q d 1] from rfl, den_pair, den_pair]
  exact BI.sep_mono some_of some_of

theorem acc_join (c : Dev nD) : den m c (ofLanes fun q d => [.acc q d .all 4]) ⊢ (scr c cc0_scratch1 : sProp 𝕄) :=
  (accEnd m c).trans ((Entails.of_eq (acc_pieces m c)).trans (some_join m c cc0_scratch1 (fun t : Fin 2 × Fin 2 => accR t.1 t.2) acc_disjoint acc_cover))
theorem comm_join (c : Dev nD) : den m c (ofLanes fun q d => [.comm q d 0 .all 5, .comm q d 1 .all 6]) ⊢ (scr c cc0_scratch0 : sProp 𝕄) :=
  (commEnd m c).trans ((Entails.of_eq (comm_pieces m c)).trans (some_join m c cc0_scratch0 (fun t : Fin 2 × Fin 2 × Fin 2 => commR t.1 t.2.1 t.2.2) comm_disjoint comm_cover))
theorem loc_join (c : Dev nD) : den m c (bits.map .locU) ⊢ (scr c cc0_scratch2 : sProp 𝕄) :=
  (Entails.of_eq (loc_pieces m c)).trans (some_join m c cc0_scratch2 locR loc_disjoint loc_cover)

/-- The buffers of a device are what its list of pieces starts with, -/
theorem mem_split (c : Dev nD) (f : Buf (Elt F) ((c : Thread nD τ).loc main_v1)) :
    iprop((((c : Thread nD τ).loc main_arg0) ↦{fullShare} m ((c : Thread nD τ).loc main_arg0)) ∗ (((c : Thread nD τ).loc main_v1) ↦{fullShare} f)
        ∗ scr c cc0_scratch0 ∗ scr c cc0_scratch1 ∗ scr c cc0_scratch2) ⊢ den m c memStart := by
  unfold memStart
  rw [den_append, den_append, den_append, den_append]
  iintro ⟨Ha, Ho, H0, H1, H2⟩
  isplitr [H2]
  · isplitr [H0]
    · isplitr [H1]
      · isplitl [Ha]
        · iapply (arg_split m c); iexact Ha
        · iapply (out_split m c f); iexact Ho
      · rw [acc_pieces]
        iapply (some_split (F := F) c cc0_scratch1 (fun t : Fin 2 × Fin 2 => accR t.1 t.2) acc_disjoint acc_cover); iexact H1
    · rw [comm_pieces]
      iapply (some_split (F := F) c cc0_scratch0 (fun t : Fin 2 × Fin 2 × Fin 2 => commR t.1 t.2.1 t.2.2) comm_disjoint comm_cover); iexact H0
  · rw [loc_pieces]
    iapply (some_split (F := F) c cc0_scratch2 locR loc_disjoint loc_cover); iexact H2

/-- and what it ends with is the buffers, the result at its contents. -/
theorem mem_join (c : Dev nD) :
    den m c memEnd ⊢ iprop((((c : Thread nD τ).loc main_arg0) ↦{fullShare} m ((c : Thread nD τ).loc main_arg0)) ∗ (((c : Thread nD τ).loc main_v1) ↦{fullShare} outBuf m)
        ∗ scr c cc0_scratch0 ∗ scr c cc0_scratch1 ∗ scr c cc0_scratch2) := by
  unfold memEnd
  rw [den_append, den_append, den_append, den_append]
  iintro ⟨⟨⟨⟨Ha, Ho⟩, H1⟩, H0⟩, H2⟩
  isplitl [Ha]; · iapply (arg_join m c); iexact Ha
  isplitl [Ho]; · iapply (out_join m c); iexact Ho
  isplitl [H0]; · iapply (comm_join m c); iexact H0
  isplitl [H1]; · iapply (acc_join m c); iexact H1
  iapply (loc_join m c); iexact H2

end Cert.RingProof

end
-- ==== Proof.Deal.lean ====
/-
What the launch deals: the semaphores, the rounds, the tokens and the credits of all devices, and how each device comes by what it starts with.
-/
module

public import proofs.«01_k».proof.Proof.Pieces
public import Idealize.ShloMosaic.Lib.Pipeline.BigSepL

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL tallyL_pos tallyL_append cred_tallyL)

variable {F : FTy → Type} [FloatOps F]

local notation "𝕄" => MT nD τ sig ℕ (Elt F) ℕ UU ℕ

variable (m : (ℓ : Loc nD τ sig) → Buf (Elt F) ℓ)

/-! ## The lists behind the starting resources -/

/-- The tokens, the credits and the marks a device starts with. -/
def tokL : List Due := tokStart.filterMap fun | .tok w x r d => some ⟨w, x, r, d⟩ | _ => none
def crdL : List (Cell × ℕ) := crdStart.filterMap fun | .crd x r => some (x, r) | _ => none
def rchL : List (Who × Cell) := rchStart.filterMap fun | .rch w x 0 => some (w, x) | _ => none

theorem tokL_eq : tokStart = tokL.map fun u => .tok u.w u.x u.r u.d := by decide +kernel
theorem crdL_eq : crdStart = crdL.map fun p => .crd p.1 p.2 := by decide +kernel
theorem rchL_eq : rchStart = rchL.map fun p => .rch p.1 p.2 0 := by decide +kernel

theorem cells_all : (Finset.univ : Finset Cell) = cellList.toFinset := by decide +kernel
theorem cells_nodup : cellList.Nodup := by decide +kernel

theorem bigSep_cells (Φ : Cell → sProp 𝕄) : bigSep Finset.univ Φ = bigSepL cellList Φ :=
  bigSep_univ_eq_bigSepL cellList cells_all cells_nodup Φ

/-- A neighbour as a permutation of the devices. -/
def Who.perm : Who → (Dev nD ≃ Dev nD)
  | .me => Equiv.refl _
  | .nx d => ring d
  | .fr d => (ring d).symm

theorem Who.perm_eq (w : Who) (c : Dev nD) : w.perm c = w.dev c := by cases w <;> rfl

/-! ## The credits -/

/-- A payment as it is addressed to a device's own cell. -/
def Due.at (c : Dev nD) (u : Due) : Pay nD τ sig := (cell u.x c, lev u.x u.r, amt u.x)
/-- The credit of a round of a device's own cell. -/
def crdPay (c : Dev nD) (p : Cell × ℕ) : Pay nD τ sig := (cell p.1 c, lev p.1 p.2, expectOf p.1)
def amtPay (c : Dev nD) (p : Cell × ℕ) : Pay nD τ sig := (cell p.1 c, lev p.1 p.2, amt p.1)

theorem tallyL_perm {l l' : List (Pay nD τ sig)} (h : l.Perm l') : tallyL l = tallyL l' := by
  induction h with
  | nil => rfl
  | cons x _ ih => rw [tallyL, tallyL, ih]
  | swap x y l => rw [tallyL, tallyL, tallyL, tallyL, ← add_assoc, ← add_assoc, add_comm x.tally]
  | trans _ _ h h' => exact h.trans h'

theorem sum_dues (ds : List Due) : (∑ c : Dev nD, tallyL (ds.map (Due.pay c))) = ∑ c : Dev nD, tallyL (ds.map (Due.at c)) := by
  induction ds with
  | nil => rfl
  | cons u ds ih =>
    simp only [List.map_cons, tallyL]
    rw [Finset.sum_add_distrib, Finset.sum_add_distrib, ih]
    refine congrArg (· + _) ?_
    rw [← Equiv.sum_comp u.w.perm fun c => (u.at c).tally]
    refine Finset.sum_congr rfl fun c _ => ?_
    rw [Who.perm_eq]; rfl

/-- How many payments make up a round. -/
def copies : Cell → ℕ
  | .bar => 2
  | .cr _ => 2
  | _ => 1

theorem copies_tally (c : Dev nD) (p : Cell × ℕ) : tallyL ((List.replicate (copies p.1) p).map (amtPay c)) = (crdPay c p).tally := by
  obtain ⟨x, r⟩ := p
  cases x
  · show (amtPay c (.bar, r)).tally + ((amtPay c (.bar, r)).tally + 0) = _
    rw [add_zero]; exact tallyAt_add _ _ _ _
  · rename_i s
    show (amtPay c (.cr s, r)).tally + ((amtPay c (.cr s, r)).tally + 0) = _
    rw [add_zero]; exact tallyAt_add _ _ _ _
  · exact add_zero _
  · exact add_zero _

theorem rounds_tally (c : Dev nD) (l : List (Cell × ℕ)) :
    tallyL ((l.flatMap fun p => List.replicate (copies p.1) p).map (amtPay c)) = tallyL (l.map (crdPay c)) := by
  induction l with
  | nil => rfl
  | cons p l ih => rw [List.flatMap_cons, List.map_append, tallyL_append, copies_tally, ih]; rfl

theorem dues_perm : (dues.map fun u => (u.x, u.r)).Perm (crdL.flatMap fun p => List.replicate (copies p.1) p) := by decide +kernel

theorem dues_at (c : Dev nD) : tallyL (dues.map (Due.at c)) = tallyL (crdL.map (crdPay c)) := by
  rw [← rounds_tally, ← tallyL_perm (dues_perm.map (amtPay c)), List.map_map]; rfl

/-- What a device owes at the start. -/
def O₀ (c : Dev nD) : CellTallies nD τ sig ℕ := tallyL (dues.map (Due.pay c))

theorem creds (c : Dev nD) : (Pipeline.launchCred O₀ c : sProp 𝕄) = den m c crdStart := by
  rw [den_eq, crdL_eq, bigSepL_map,
    Pipeline.launchCred_of_sum O₀ (fun c => tallyL (crdL.map (crdPay c))) ((sum_dues dues).trans (Finset.sum_congr rfl fun c _ => dues_at c))
      (fun d g hg => by
        obtain ⟨i, hi⟩ := DFunLike.ne_iff.mp hg
        obtain ⟨x, hx, rfl, -⟩ := tallyL_pos (Nat.pos_of_ne_zero hi)
        obtain ⟨p, -, rfl⟩ := List.mem_map.mp hx
        rfl) c,
    cred_tallyL, bigSepL_map]
  rfl

/-! ## The tokens -/

theorem keys_nodup : (tokL.map fun u => (u.x, u.r, u.d)).Nodup := by decide +kernel

abbrev tokOf (p : Dev nD × Fin tokL.length) : GSem nD τ sig × ℕ × Fin 2 := (cell (tokL.get p.2).x p.1, (tokL.get p.2).r, (tokL.get p.2).d)

theorem tokOf_injective : Function.Injective tokOf := by
  rintro ⟨c, i⟩ ⟨c', i'⟩ h
  obtain ⟨hx, hc⟩ := cell_inj (congrArg Prod.fst h)
  have hr : (tokL.get i).r = (tokL.get i').r := congrArg (fun y : GSem nD τ sig × ℕ × Fin 2 => y.2.1) h
  have hd : (tokL.get i).d = (tokL.get i').d := congrArg (fun y : GSem nD τ sig × ℕ × Fin 2 => y.2.2) h
  refine Prod.ext hc (Fin.ext ?_)
  have hi : i.val < (tokL.map fun u => (u.x, u.r, u.d)).length := by rw [List.length_map]; exact i.isLt
  have hi' : i'.val < (tokL.map fun u => (u.x, u.r, u.d)).length := by rw [List.length_map]; exact i'.isLt
  refine (List.Nodup.getElem_inj_iff keys_nodup (hi := hi) (hj := hi')).mp ?_
  rw [List.getElem_map, List.getElem_map]
  exact Prod.ext hx (Prod.ext hr hd)

def ringToks : Finset (GSem nD τ sig × ℕ × Fin 2) := Finset.univ.map ⟨tokOf, tokOf_injective⟩

theorem cellAt_injective : Function.Injective fun p : Dev nD × Cell => cell p.2 p.1 := fun p p' h =>
  Prod.ext (cell_inj h).2 (cell_inj h).1

def ringCells : Finset (GSem nD τ sig) := Finset.univ.map ⟨fun p : Dev nD × Cell => cell p.2 p.1, cellAt_injective⟩

theorem bigSep_list {I : Type} (l : List I) (Φ : I → sProp 𝕄) : (bigSep Finset.univ fun i : Fin l.length => Φ (l.get i)) = bigSepL l Φ := by
  rw [bigSep_univ_eq_bigSepL (List.finRange l.length) (by ext i; simp) (List.nodup_finRange _), ← bigSepL_map, List.map_get_finRange]

/-- The tokens of the payments on a device's own cells. -/
def toks (c : Dev nD) : sProp 𝕄 := bigSepL tokL fun u => dutyTok ER (cell u.x c) u.r u.d

theorem toks_deal (l : List Due) : (bigSep Finset.univ fun c : Dev nD => bigSepL l fun u => (dutyTok ER (cell u.x c) u.r u.d : sProp 𝕄))
    = bigSep Finset.univ fun c : Dev nD => bigSepL l fun u => dutyTok ER (cell u.x (u.w.dev c)) u.r u.d := by
  induction l with
  | nil => rfl
  | cons u l ih =>
    simp only [bigSepL_cons']
    rw [bigSep_sep', bigSep_sep', ih, bigSep_univ_equiv u.w.perm fun c : Dev nD => (dutyTok ER (cell u.x c) u.r u.d : sProp 𝕄)]
    simp only [Who.perm_eq]

theorem toks_around : (bigSep Finset.univ fun c : Dev nD => (toks c : sProp 𝕄)) = bigSep Finset.univ fun c : Dev nD => den m c tokStart := by
  unfold toks
  rw [toks_deal]
  refine bigSep_congr fun c _ => ?_
  rw [den_eq, tokL_eq, bigSepL_map]; rfl

/-! ## The semaphores of a device -/

inductive Own where
  | cr (s : Fin 2)
  | snd (q d s : Fin 2)
  | rcv (q d s : Fin 2)
  | ld (q d : Fin 2)
  | st (q d : Fin 2)
deriving DecidableEq, Fintype

def osem : Own → SemLoc sig
  | .cr s => .reg (crS s)
  | .snd q d s => .dma (sndS q d s)
  | .rcv q d s => .dma (rcvS q d s)
  | .ld q d => .dma (ldS q d)
  | .st q d => .dma (stS q d)

/-- The semaphores in the order of the lists above. -/
def ownCells : List Own := bits.map .cr ++ (bits.flatMap fun q => bits.flatMap fun d => bits.map (.snd q d)) ++ (bits.flatMap fun q => bits.flatMap fun d => bits.map (.rcv q d))
def ownRest : List Own := bits.flatMap fun q => bits.flatMap fun d => [.ld q d, .st q d]

theorem own_all : (Finset.univ : Finset Own) = (ownCells ++ ownRest).toFinset := by decide +kernel
theorem own_nodup : (ownCells ++ ownRest).Nodup := by decide +kernel

theorem ownSemFacts : Pipeline.OwnSemFacts cfg0.spec osem := by decide +kernel

abbrev own0 (c : Dev nD) : sProp 𝕄 := Pipeline.ownSems0 (Ix := ℕ) (Name := ℕ) (U := UU) (Lvl := ℕ) (Val := Elt F) (τ := τ) osem c

theorem ownSems0_eq (c : Dev nD) : (own0 c : sProp 𝕄)
    = iprop((bigSepL cellList.tail fun x => semVal (cell x c) 0) ∗ den m c semStart) := by
  unfold own0
  rw [Pipeline.ownSems0_eq_of_list c osem (ownCells ++ ownRest) own_all own_nodup, bigSepL_append, den_eq]
  refine congrArg₂ _ ?_ ?_
  · rw [← bigSepL_map (fun k => osem k) ownCells fun s => (semVal ((c : Thread nD τ), s) 0 : sProp 𝕄),
      show (ownCells.map fun k => osem k) = cellList.tail.map Cell.sem from rfl, bigSepL_map]
  · rfl

theorem unscopedSems0_eq (c : Dev nD) : (unscopedSems0 c : sProp 𝕄) = semVal (cell .bar c) 0 := by
  unfold unscopedSems0; rw [bigSep_eq_bigSepL_of_eq [SemLoc.reg barS] (by decide) (by decide)]; rfl

theorem cells_cons (c : Dev nD) (Φ : Cell → sProp 𝕄) : bigSepL cellList Φ = iprop(Φ .bar ∗ bigSepL cellList.tail Φ) :=
  bigSepL_cons' Cell.bar cellList.tail Φ

/-! ## The ghost state -/

def u₀ : UU := (initOf (Pipeline.cells cfgs cellOf_inj) (Pipeline.launchToks cfgs cellOf_inj), (initOf ringCells ringToks, 1))

end Cert.RingProof

end
-- ==== Proof.Launch.lean ====
/-
The run: from any memory whose semaphores are at rest, every device ends with its argument as it was, the result at its contents and every semaphore
at rest again. Stated once, over any float values.
-/
module

public import proofs.«01_k».proof.Proof.Deal
public import Idealize.ShloMosaic.Lib.Pipeline.BigSepL
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv)
open Idealize.ShloMosaic.TalkSites (Pay tallyL tallyL_pos tallyL_append cred_tallyL)

variable {F : FTy → Type} [FloatOps F]

local notation "𝕄" => MT nD τ sig ℕ (Elt F) ℕ UU ℕ

variable (m : (ℓ : Loc nD τ sig) → Buf (Elt F) ℓ)
variable (ρ : Dev nD → PrngReg)

attribute [local irreducible] prog dues start finish

/-! ## What the launch deals a device -/

/-- What a device is dealt of the rounds. -/
def Gd (c : Dev nD) : sProp 𝕄 :=
  iprop((bigSep Finset.univ fun x : Cell => roundState ER (Rd m) (cell x c) 0) ∗ (bigSep Finset.univ fun x : Cell => atPos ER (cell x c) 0 ∅ 0)
    ∗ (bigSep Finset.univ fun x : Cell => reached ER (cell x c) 0) ∗ toks c)

/-- What it comes by once all devices' cells are recorded. -/
def linear (c : Dev nD) : sProp 𝕄 := iprop(den m c semStart ∗ den m c posStart ∗ den m c tokStart)

def invs (K : Dev nD × Cell → ℕ) : sProp 𝕄 := bigSep Finset.univ fun p : Dev nD × Cell => cellInv ER (Rd m) (K p) (cell p.2 p.1)
def marks : sProp 𝕄 := bigSep Finset.univ fun p : Dev nD × Cell => reached ER (cell p.2 p.1) 0

instance invs_persistent (K : Dev nD × Cell → ℕ) : Persistent (invs (F := F) m K) := by unfold invs; infer_instance
instance marks_persistent : Persistent (marks (F := F)) := by unfold marks; infer_instance

def Gl (c : Dev nD) : sProp 𝕄 := iprop(∃ K, invs m K ∗ linear m c ∗ den m c rchStart)

theorem fund_ring : BI.own (ER (initOf ringCells ringToks)) ⊢ (|==> bigSep Finset.univ (Gd m) : sProp 𝕄) := by
  have hX (Φ : GSem nD τ sig → sProp 𝕄) : bigSep ringCells Φ = bigSep Finset.univ fun c : Dev nD => bigSep Finset.univ fun x : Cell => Φ (cell x c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => bigSep_list tokL fun u => (dutyTok ER (cell u.x c) u.r u.d : sProp 𝕄)
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd; simp only [bigSep_sep']
  isplitl [Hst']; · iexact Hst'
  isplitl [Hat']; · iexact Hat'
  isplitl [Hr']; · iexact Hr'
  iexact Htok'

theorem pos_start (c : Dev nD) : (bigSep Finset.univ fun x : Cell => (atPos ER (cell x c) 0 ∅ 0 : sProp 𝕄)) = den m c posStart := by
  rw [bigSep_cells, den_eq]; unfold posStart; rw [bigSepL_map]; rfl

theorem sems_start (c : Dev nD) : iprop(own0 c ∗ unscopedSems0 c)
    ⊢ (iprop((bigSep Finset.univ fun x : Cell => semVal (cell x c) 0) ∗ den m c semStart) : sProp 𝕄) := by
  rw [ownSems0_eq m c, unscopedSems0_eq, bigSep_cells, cells_cons c]
  iintro ⟨⟨HC, HS⟩, HB⟩
  isplitl [HC HB]
  · isplitl [HB] <;> iassumption
  iexact HS

theorem sems_end (c : Dev nD) : iprop((bigSep Finset.univ fun x : Cell => semVal (cell x c) 0) ∗ den m c semStart)
    ⊢ (iprop(own0 c ∗ unscopedSems0 c) : sProp 𝕄) := by
  rw [ownSems0_eq m c, unscopedSems0_eq, bigSep_cells, cells_cons c]
  iintro ⟨⟨HB, HC⟩, HS⟩
  isplitl [HC HS]
  · isplitl [HC] <;> iassumption
  iexact HB

theorem core_alloc (c : Dev nD) :
    iprop(own0 c ∗ unscopedSems0 c ∗ Gd m c)
      ⊢ |={Set.univ}=> iprop((bigSep Finset.univ fun x : Cell => iprop(∃ κ : ℕ, cellInv ER (Rd m) κ (cell x c)))
          ∗ (bigSep Finset.univ fun x : Cell => reached ER (cell x c) 0) ∗ den m c semStart ∗ den m c posStart ∗ toks c) := by
  unfold Gd
  rw [pos_start]
  iintro ⟨Hos, Hus, Hst, Hat, Hr, Htok⟩
  ihave Hv := (sems_start m c) $$ [Hos Hus]
  · isplitl [Hos] <;> iassumption
  icases Hv with ⟨Hv, Hs⟩
  imod (show iprop((bigSep Finset.univ fun x : Cell => semVal (cell x c) 0) ∗ bigSep Finset.univ fun x : Cell => roundState ER (Rd m) (cell x c) 0)
      ⊢ (|={Set.univ}=> bigSep Finset.univ fun x : Cell => iprop(∃ κ : ℕ, cellInv ER (Rd m) κ (cell x c)) : sProp 𝕄) from by
        rw [← bigSep_sep']
        exact (bigSep_mono fun x _ => (Rounds.body_intro ER (Rd m) (cell x c)).trans inv_alloc).trans (bigSep_fupd _ _)) $$ [Hv Hst] with Hinv
  · isplitl [Hv] <;> iassumption
  imodintro
  isplitl [Hinv]; · iexact Hinv
  isplitl [Hr]; · iexact Hr
  isplitl [Hs]; · iexact Hs
  isplitl [Hat]; · iexact Hat
  iexact Htok

theorem mark_at (x : Cell) (c : Dev nD) : (marks : sProp 𝕄) ⊢ reached ER (cell x c) 0 := by
  unfold marks
  exact bigSep_elim (Φ := fun p : Dev nD × Cell => (reached ER (cell p.2 p.1) 0 : sProp 𝕄)) (Finset.mem_univ (c, x))

theorem rch_start (c : Dev nD) : (marks : sProp 𝕄) ⊢ den m c rchStart := by
  rw [rchL_eq]
  generalize rchL = l
  induction l with
  | nil => iintro -; exact Entails.rfl
  | cons p l ih =>
    show marks ⊢ iprop(reached ER (cell p.2 (p.1.dev c)) 0 ∗ den m c (l.map fun p => .rch p.1 p.2 0))
    iintro #H
    isplitr
    · iapply (mark_at p.2 (p.1.dev c)); iexact H
    · iapply ih; iexact H

theorem bigSep_with {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cell => iprop(∃ κ : ℕ, cellInv ER (Rd m) κ (cell x c)))
          ∗ (bigSep Finset.univ fun x : Cell => reached ER (cell x c) 0) ∗ den m c semStart ∗ den m c posStart ∗ toks c) : sProp 𝕄)
      ⊢ bigSep Finset.univ (Gl m) := by
  rw [bigSep_sep', bigSep_sep', bigSep_sep', bigSep_sep', toks_around m,
    ← bigSep_univ_prod (fun p : Dev nD × Cell => iprop(∃ κ : ℕ, cellInv ER (Rd m) κ (cell p.2 p.1))),
    ← bigSep_univ_prod (fun p : Dev nD × Cell => (reached ER (cell p.2 p.1) 0 : sProp 𝕄))]
  iintro ⟨HI, #HR, Hs, Hp, Ht⟩
  ihave HK := (BI.bigSep_exists_pi Finset.univ (fun (p : Dev nD × Cell) (κ : ℕ) => (cellInv ER (Rd m) κ (cell p.2 p.1) : sProp 𝕄))) $$ HI
  icases HK with ⟨%K, #HI⟩
  iapply (bigSep_with (R := iprop(invs m K ∗ marks)) (Φ := linear m) fun c _ => by
    unfold Gl
    iintro ⟨⟨#HI, #HR⟩, Hl⟩
    iexists K
    isplitr; · iexact HI
    isplitl [Hl]; · iexact Hl
    iapply (rch_start m c); iexact HR)
  isplitr
  · isplitr
    · unfold invs; iexact HI
    · unfold marks; iexact HR
  · unfold linear
    rw [bigSep_sep', bigSep_sep']
    isplitl [Hs]; · iexact Hs
    isplitl [Hp] <;> iassumption

/-- All devices' cells recorded at once. -/
theorem glob : (bigSep Finset.univ fun c => iprop(own0 c ∗ unscopedSems0 c ∗ Gd m c) : sProp 𝕄)
    ⊢ |={Set.univ}=> bigSep Finset.univ (Gl m) :=
  ((bigSep_mono fun c _ => core_alloc m c).trans (bigSep_fupd _ _)).trans (BI.fupd_mono (regroup m))

/-! ## Before and after the body -/

/-- The argument and the result of a device. -/
def bufs (c : Dev nD) (f : Buf (Elt F) ((c : Thread nD τ).loc main_v1)) : sProp 𝕄 :=
  iprop((((c : Thread nD τ).loc main_arg0) ↦{fullShare} m ((c : Thread nD τ).loc main_arg0)) ∗ (((c : Thread nD τ).loc main_v1) ↦{fullShare} f))

def X₀ (c : Dev nD) : sProp 𝕄 :=
  iprop(bufs m c (m ((c : Thread nD τ).loc main_v1)) ∗ levAts (L top) lv ∗ den m c crdStart ∗ Gl m c)

def Φ₀ (c : Dev nD) : sProp 𝕄 := iprop(∃ K, G m K ∗ den m c start)
def Φ₁ (c : Dev nD) : sProp 𝕄 :=
  iprop(bufs m c (outBuf m) ∗ (scr c cc0_scratch0 ∗ scr c cc0_scratch1 ∗ scr c cc0_scratch2) ∗ own0 c ∗ unscopedSems0 c)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem start_intro (c : Dev nD) :
    iprop(Pipeline.unscopedRestP Pipeline.Prefetch.none cfg0.spec c (fun b => m ((c : Thread nD τ).loc b)) ∗ levAts (L top) lv
        ∗ Pipeline.launchCred O₀ c ∗ prngReg c (ρ c) ∗ Gl m c)
      ⊢ |={Set.univ}=> iprop(X₀ m c ∗ emp) := by
  rw [Pipeline.unscopedRestP_none, unscopedRest0_eq, creds m c]
  unfold X₀ bufs
  iintro ⟨Hb, Hlev, Hcr, -, HG⟩
  imodintro
  isplitl
  · isplitl [Hb]; · iexact Hb
    isplitl [Hlev]; · iexact Hlev
    isplitl [Hcr] <;> iassumption
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀ bufs Gl linear start G
  simp only [den_append m c]
  iintro ⟨⟨⟨Ha, Ho⟩, Hlev, Hcr, ⟨%K, HI, ⟨Hs, Hp, Ht⟩, Hr⟩⟩, -, H0, H1, H2⟩
  iexists K
  isplitl [Hlev HI]
  · isplitl [Hlev]; · iexact Hlev
    unfold invs; iexact HI
  isplitr [Hr]
  · isplitr [Ht]
    · isplitr [Hcr]
      · isplitr [Hp]
        · isplitr [Hs]
          · iapply (mem_split m c (m ((c : Thread nD τ).loc main_v1)))
            isplitl [Ha]; · iexact Ha
            isplitl [Ho]; · iexact Ho
            isplitl [H0]; · iexact H0
            isplitl [H1] <;> iassumption
          · iexact Hs
        · iexact Hp
      · iexact Hcr
    · iexact Ht
  · iexact Hr

theorem phi1_exit (c : Dev nD) :
    (dats m 0 c).Φ (Fin.last cfg0.N) ⊢ iprop((bufs m c (outBuf m) ∗ unscopedSems0 c) ∗ Pipeline.ownSems0 osem c ∗ Pipeline.scopedRest cfg0.spec c) := by
  rw [show (dats m 0 c).Φ (Fin.last cfg0.N) = Φ₁ m c from rfl, scopedRest0_eq]
  unfold Φ₁
  iintro ⟨Hb, Hs, Ho, Hu⟩
  isplitl [Hb Hu]
  · isplitl [Hb] <;> iassumption
  isplitl [Ho] <;> iassumption

/-- The cells closed: every round is over. -/
theorem close (K : Dev nD × Cell → ℕ) (c : Dev nD) : iprop(G m K ∗ den m c posEnd) ⊢ (|={Set.univ}=> bigSep Finset.univ fun x : Cell => semVal (cell x c) 0 : sProp 𝕄) := by
  have h : den m c posEnd = bigSep Finset.univ fun x : Cell => (atPos ER (cell x c) (rounds x) ∅ 0 : sProp 𝕄) := by
    rw [bigSep_cells, den_eq]; unfold posEnd; rw [bigSepL_map]; rfl
  rw [h]
  refine (bigSep_with (R := G m K) fun x _ => ?_).trans (bigSep_fupd _ _)
  iintro ⟨#HG, Hat⟩
  iapply (cell_close ER (Rd m) (κ := K (c, x)) (Set.mem_univ _) (fun h => h) (R := rounds x) fun r hr => duties_later m x c r hr)
  isplitr
  · iapply (G_cell m K x c); iexact HG
  · iexact Hat

theorem finish_exit (K : Dev nD × Cell → ℕ) (c : Dev nD) : iprop(G m K ∗ den m c finish) ⊢ |={Set.univ}=> Φ₁ m c := by
  unfold finish Φ₁ bufs
  simp only [den_append m c]
  iintro ⟨#HG, ⟨Hm, Hs⟩, Hp⟩
  imod (close m K c) $$ [Hp] with Hv
  · isplitr
    · iexact HG
    · iexact Hp
  imodintro
  ihave Hm' := (mem_join m c) $$ Hm
  icases Hm' with ⟨Ha, Ho, H⟩
  isplitl [Ha Ho]
  · isplitl [Ha] <;> iassumption
  isplitl [H]; · iexact H
  iapply (sems_end m c)
  isplitl [Hv] <;> iassumption

theorem body_end (K : Dev nD × Cell → ℕ) (c : Dev nD) : iprop(G m K ∗ den m c finish ∗ owe c [])
    ⊢ |={Set.univ}=> iprop(Φ₁ m c ∗ ∃ W, owes (c : Thread nD τ) 0 W) := by
  iintro ⟨#HG, Hf, HO⟩
  imod (finish_exit m K c) $$ [Hf] with H
  · isplitr; · iexact HG
    iexact Hf
  imodintro
  isplitl [H]; · iexact H
  unfold owe
  iexact HO

theorem body_wp (c : Dev nD) : iprop(Φ₀ m c ∗ ∃ W, owes (c : Thread nD τ) (O₀ c) W)
    ⊢ WP c (run c prog) (fun _ => iprop(Φ₁ m c ∗ ∃ W, owes (c : Thread nD τ) 0 W)) := by
  unfold Φ₀
  iintro ⟨⟨%K, #HG, Hs⟩, HO⟩
  iapply (show iprop(G m K ∗ G m K ∗ den m c start ∗ owe c dues) ⊢ WP c (run c prog) (fun _ => iprop(Φ₁ m c ∗ ∃ W, owes (c : Thread nD τ) 0 W)) from
    (BI.sep_mono_r (prog_sound m K c)).trans ((wp_frame_l _ _ _).trans ((wp_mono _ _ _ fun _ => body_end m K c).trans (wp_fupd _ _ _ _ _))))
  isplitr; · iexact HG
  isplitr; · iexact HG
  isplitl [Hs]; · iexact Hs
  unfold owe; iexact HO

theorem owes_in (c : Dev nD) : iprop(Φ₀ m c ∗ (dats (F := F) m 0 c).owesAt 0 t0_0.castSucc ∗ emp)
    ⊢ iprop(Φ₀ m c ∗ ∃ W, owes (c : Thread nD τ) (O₀ c) W) := by
  unfold Dat.owesAt Pipeline.owesWithin
  rw [show (dats (F := F) m 0 c).owed t0_0.castSucc = O₀ c from rfl]
  iintro ⟨H, ⟨%W, -, HO⟩, -⟩
  isplitl [H]; · iexact H
  iexists W; iexact HO

theorem owes_out (c : Dev nD) : iprop(Φ₁ m c ∗ ∃ W, owes (c : Thread nD τ) 0 W)
    ⊢ iprop(Φ₁ m c ∗ (dats (F := F) m 0 c).owesAt 0 t0_0.succ ∗ emp) := by
  unfold Dat.owesAt Pipeline.owesWithin
  rw [show (dats (F := F) m 0 c).owed t0_0.succ = 0 from rfl]
  iintro ⟨H, ⟨%W, HO⟩⟩
  isplitl [H]; · iexact H
  isplitl [HO]
  · iexists W
    isplitr; · ipureintro; exact (Set.subset_univ _).trans Set.subset_union_left
    iexact HO
  · iempintro

attribute [local irreducible] cc0_body

set_option maxRecDepth 8000 in
/-- The body, as the launch asks for it. -/
theorem body_obligation (c : Dev nD) : BodyObligation (dats (F := F) m 0 c) (defs₀ (F := F)) 𝒱₀ 0 Set.univ := fun t => by
  rw [fin_N0 t]
  have hW (Φ : Fin cfg0.W → sProp 𝕄) : bigSep Finset.univ Φ = BI.emp := by
    rw [show (Finset.univ : Finset (Fin cfg0.W)) = ∅ from Finset.univ_eq_empty (α := Fin 0), BI.bigSep_empty]
  rw [hW, hW]
  have h := body_wp m c
  rw [show WP c (run c prog) (fun _ => iprop(Φ₁ m c ∗ ∃ W, owes (c : Thread nD τ) 0 W))
    = WP c (bodyAt0 (F := F) t0_0) (fun _ => iprop(Φ₁ m c ∗ ∃ W, owes (c : Thread nD τ) 0 W)) from by
      rw [body_eq]; unfold WP; rw [wp_deviceId]] at h
  have h2 : iprop(Φ₀ m c ∗ (dats (F := F) m 0 c).owesAt 0 t0_0.castSucc ∗ emp)
      ⊢ WP c (bodyAt0 (F := F) t0_0) (fun _ => iprop(Φ₁ m c ∗ (dats (F := F) m 0 c).owesAt 0 t0_0.succ ∗ emp)) :=
    (owes_in m c).trans (h.trans (wp_mono _ _ _ fun _ => owes_out m c))
  exact h2

theorem waits (c : Dev nD) : (levAts (L top) lv : sProp 𝕄) ⊢ Pipeline.cellsWaits cfgs (dats m) 0 0 c :=
  Pipeline.cellsWaits_intro cfgs (dats m) 0 0 c fun w => w.elim0

/-! ## The run -/

/-- What the run ends with: the argument as it was, the result at its contents, every semaphore at rest. -/
def Ends (s : MemSt nD τ sig (Elt F)) : Prop :=
  (∀ c : Dev nD, s.mem ((c : Thread nD τ).loc main_arg0) = m ((c : Thread nD τ).loc main_arg0)
    ∧ s.mem ((c : Thread nD τ).loc main_v1) = outBuf m) ∧ s.sem = fun _ => 0

theorem read_one (ℓ : Loc nD τ sig) (f : Buf (Elt F) ℓ) (s' : Phys nD τ sig (Elt F)) :
    iprop((ℓ ↦{fullShare} f) ∗ SI s') ⊢ iprop(⌜s'.mem.mem ℓ = f⌝ ∗ SI s' : sProp 𝕄) := by
  have h := pointsTo_read_all (Ix := ℕ) (Name := ℕ) (U := UU) (Lvl := ℕ) ({()} : Finset Unit) (fun _ => ℓ) (fun _ => f) s'
  rw [BI.bigSep_singleton] at h
  exact h.trans (BI.sep_mono_l (BI.pure_mono fun h => h () (Finset.mem_singleton_self _)))

set_option maxRecDepth 8000 in
theorem run_main : θ_run defs (onTc (τ := τ) (main (F := F))) (s₀ m ρ) (fun r => Ends m r.2) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L top) (lv := lv) (hL := SiteBlocks.hL top) (hwaits := waits m)
    (G := Gd m) (G' := Gl m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_ring m) $$ HX with HG
      imodintro
      isplitl [HP] <;> iassumption)
    (hglob := glob m)
    (hA := fun _ w => w.elim0) (hpf := fun _ k => k.elim0)
    (X := X₀ m) (Y := fun c => iprop(bufs m c (outBuf m) ∗ unscopedSems0 c)) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_v1) = outBuf m)
      ∧ ∀ sm : SemLoc sig, sm.isScoped .tc = false → s.sem ((c.tc : Thread nD τ), sm) = 0)
    (hY := fun c s' => by
      unfold bufs
      iintro ⟨⟨⟨Ha, Ho⟩, Hu⟩, -, HSI⟩
      ihave H := (read_one _ _ s') $$ [Ha HSI]
      · isplitl [Ha] <;> iassumption
      icases H with ⟨%ha, HSI⟩
      ihave H := (read_one _ _ s') $$ [Ho HSI]
      · isplitl [Ho] <;> iassumption
      icases H with ⟨%ho, HSI⟩
      imod (Pipeline.unscopedSems0_read (X := unscopedSems0 c) (c := c) fupd_intro s') $$ [Hu HSI] with ⟨%hu, HSI⟩
      · isplitl [Hu] <;> iassumption
      imodintro
      isplitr; · ipureintro; exact ⟨⟨ha, ho⟩, hu⟩
      iexact HSI)
    (hQ := fun _ h hs => ⟨fun c => (h c).2.2.1, sem_eq_zero hs fun c => (h c).2.2.2⟩)

end Cert.RingProof

end
-- ==== Proof.Value.lean ====
/-
The value: over the extended reals, each piece of the result is the function of the sum over the four devices of their pieces of the
argument, whatever the order the ring adds them in; and so is the result of the reference, read at the same index.
-/
module

public import proofs.«01_k».proof.Proof.Launch
public import proofs.«01_k».proof.Proof.Gen.ReferenceIdeal.Run
public import Idealize.ShloMosaic.Lib.Pointwise.Reduce
public import Idealize.ShloMosaic.Lib.Pointwise.Reshape
public import Idealize.ShloMosaic.Lib.Pipeline.Value
public import Idealize.ShloMosaic.Lib.Layout

@[expose] public section

noncomputable section

namespace Cert.RingProof

open Cert.KernelIdeal Cert.KernelIdeal.Gen
open Idealize.ShloMosaic
open Idealize.ShloMosaic.TcCoe

variable (m : (ℓ : Loc nD τ sig) → Buf (Elt Ideal) ℓ)

/-- What is computed of a sum, at one index. -/
def fS (s : EReal) : EReal := Ideal.tanh s * s * s + max s 0 * max s 0 * max s 0

theorem fX_apply (v : FVec Ideal S1024x1024 .f32) (y : S1024x1024.Idx) : fX v y = fS (v y) := by
  have h0 : (Ideal.ofBits .f32 0x00000000#32) = 0 := Ideal.ofBits_zero_f32
  unfold fS
  rw [← h0]
  rfl

/-- The devices counted against a direction are all the devices. -/
theorem ring_sum (d : Fin 2) (c : Dev nD) (f : Fin 4 → EReal) :
    f (back d 3 c) + f (back d 2 c) + f (back d 1 c) + f c = ∑ e, f e := by
  rw [← (chunk d c).sum_comp f, Fin.sum_univ_four]
  show _ = f (back d 0 c) + f (back d 1 c) + f (back d 2 c) + f (back d 3 c)
  rw [back_zero]
  ac_rfl

theorem V_sum (q d : Fin 2) (c : Dev nD) (y : S1024x1024.Idx) : V m q d 3 c y = ∑ e : Fin 4, T m q d (back d 3 c) e y := by
  rw [← ring_sum d c]
  show T m q d (back d 0 (frm d (frm d (frm d c)))) (frm d (frm d (frm d c))) y + T m q d (back d 1 (frm d (frm d c))) (frm d (frm d c)) y
    + T m q d (back d 2 (frm d c)) (frm d c) y + T m q d (back d 3 c) c y = _
  rw [show back d 0 (frm d (frm d (frm d c))) = back d 3 c from by revert d c; decide,
    show back d 1 (frm d (frm d c)) = back d 3 c from by revert d c; decide,
    show back d 2 (frm d c) = back d 3 c from by revert d c; decide,
    show frm d (frm d (frm d c)) = back d 3 c from by revert d c; decide,
    show frm d (frm d c) = back d 2 c from by revert d c; decide]

/-- A device's argument at an index. -/
def argAt (e : Fin 4) (i : S8192x2048.Idx) : EReal := m (((e : Dev nD) : Thread nD τ).loc main_arg0) i

/-- The result at an index: the function of the sum of the four devices' arguments there. -/
theorem outBuf_apply : outBuf m = fun i => fS (∑ e : Fin 4, argAt m e i) :=
  Rect.ext_of_cover pieceR piece_cover fun t y => by
    rw [outBuf_piece]
    show fX (V m t.1 t.2.1 3 (frm t.2.1 t.2.2)) y = _
    rw [fX_apply, V_sum, show back t.2.1 3 (frm t.2.1 t.2.2) = t.2.2 from by generalize t.2.1 = d; generalize t.2.2 = k; revert d k; decide]
    rfl

/-- The sum of the reference. -/
def refSum (x : FVec Ideal Cert.ReferenceIdeal.S32768x2048 .f32) : FVec Ideal Cert.ReferenceIdeal.S8192x2048 .f32 :=
  Host.reduceAdd (shapeCast _ x Cert.ReferenceIdeal.Gen.shapeCasts_S32768x2048_S4x8192x2048) (constant Cert.ReferenceIdeal.S_ .f32 0x00000000#32)
    Cert.ReferenceIdeal.Gen.reducesTo_S4x8192x2048_S8192x2048_d0 Cert.ReferenceIdeal.Gen.h_S_

/-- The result of the reference. -/
def refOut (x : FVec Ideal Cert.ReferenceIdeal.S32768x2048 .f32) : FVec Ideal Cert.ReferenceIdeal.S8192x2048 .f32 :=
  let r := maximumf (refSum x) (broadcastInDim Cert.ReferenceIdeal.S8192x2048 ![] Cert.ReferenceIdeal.Gen.bcast_S_S8192x2048 (constant Cert.ReferenceIdeal.S_ .f32 0x00000000#32))
  addf (mulf (mulf (Host.tanh (refSum x)) (refSum x)) (refSum x)) (mulf (mulf r r) r)

/-- The sum of the reference at an index: over the blocks of its argument. -/
theorem ref_sum (x : FVec Ideal Cert.ReferenceIdeal.S32768x2048 .f32) (i : S8192x2048.Idx) :
    refSum x i = ∑ e : Fin 4, Layout.block ⟨2, ![8192, 2048]⟩ ⟨2, ![32768, 2048]⟩ 0 4 e x (by decide) i := by
  refine (Ideal.hostReduceAdd_r3_a0 Cert.ReferenceIdeal.Gen.reducesTo_S4x8192x2048_S8192x2048_d0 _ _ i).trans ?_
  rw [show (constant (F := Ideal) Cert.ReferenceIdeal.S_ .f32 0x00000000#32) _ = (0 : EReal) from Ideal.ofBits_zero_f32, zero_add]
  refine Finset.sum_congr rfl fun e _ => ?_
  refine shapeCast_apply x _ _ _ ?_
  rw [rowMajor_val3 _ (8192 * 2048) 2048 rfl rfl, rowMajor_val2 _ 2048 rfl]
  show (e.val * 8192 + (i 0).val) * 2048 + (i 1).val = e.val * (8192 * 2048) + (i 0).val * 2048 + (i 1).val
  omega

/-- The result of the reference, of an argument whose blocks the devices hold. -/
theorem ref_value (x : FVec Ideal Cert.ReferenceIdeal.S32768x2048 .f32)
    (h : ∀ c : Dev nD, m ((c : Thread nD τ).loc main_arg0) = Layout.block ⟨2, ![8192, 2048]⟩ ⟨2, ![32768, 2048]⟩ 0 4 c x) : refOut x = outBuf m := by
  rw [outBuf_apply]
  funext i
  have hs : ∑ e : Fin 4, argAt m e i = refSum x i := by
    rw [ref_sum]
    have he (e : Fin 4) : argAt m e i = Layout.block ⟨2, ![8192, 2048]⟩ ⟨2, ![32768, 2048]⟩ 0 4 e x (by decide) i := congrFun (h e) i
    simp only [he]
  rw [hs]
  have h0 : (Ideal.ofBits .f32 0x00000000#32) = 0 := Ideal.ofBits_zero_f32
  unfold fS refOut
  rw [← h0]
  generalize refSum x = s
  rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem
open Cert.RingProof (run_main outBuf refOut ref_value)

/-- The kernel at the bits: its run, read at the argument and the semaphores. -/
theorem frame_kernel : Cert.quiescent_Kernel := fun m ρ _ =>
  (θ_run Cert.KernelIdeal.defs _ _).mono (fun _ h => ⟨fun c => (h.1 c).1, h.2⟩) (run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference writes no argument and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's result. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0)), ?_, ?_⟩
  · rw [ref_value m _ hagree]
    exact (θ_run Cert.KernelIdeal.defs _ _).mono (fun _ h c => ⟨(h.1 c).2, (h.1 c).1⟩) (run_main (F := Ideal) m ρ)
  · exact (θ_run Cert.ReferenceIdeal.defs _ _).mono (fun _ h => ⟨(h 0).1, (h 0).2⟩) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
